-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x100000 : Shape := ⟨2, ![128, 100000]⟩
abbrev S128x1 : Shape := ⟨2, ![128, 1]⟩
abbrev S128 : Shape := ⟨1, ![128]⟩
abbrev S128x2048 : Shape := ⟨2, ![128, 2048]⟩

abbrev nBuf : Space → Nat
  | .hbm => 4
  | .vmem => 25
  | .smem => 0
  | _ => 0

abbrev bufTy : (tb : Table) → Fin (tcTables nBuf tb) → BufTy
  | .hbm, ⟨0, _⟩ => ⟨S128x100000, .f32⟩
  | .hbm, ⟨1, _⟩ => ⟨S128x100000, .bf16⟩
  | .hbm, ⟨2, _⟩ => ⟨S128x1, .i32⟩
  | .hbm, ⟨3, _⟩ => ⟨S128, .i32⟩
  | .local _ .vmem, ⟨0, _⟩ => ⟨S128x2048, .bf16⟩
  | .local _ .vmem, ⟨1, _⟩ => ⟨S128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .bf16⟩
  | .local _ .vmem, ⟨11, _⟩ => ⟨S128x2048, .bf16⟩
  | .local _ .vmem, ⟨12, _⟩ => ⟨S128x2048, .bf16⟩
  | .local _ .vmem, ⟨13, _⟩ => ⟨S128x2048, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x1, .i32⟩
  | .local _ .vmem, ⟨19, _⟩ => ⟨S128x2048, .f32⟩
  | .local _ .vmem, ⟨20, _⟩ => ⟨S128x2048, .f32⟩
  | .local _ .vmem, ⟨21, _⟩ => ⟨S128x2048, .i32⟩
  | .local _ .vmem, ⟨22, _⟩ => ⟨S128x2048, .f32⟩
  | .local _ .vmem, ⟨23, _⟩ => ⟨S128x2048, .f32⟩
  | .local _ .vmem, ⟨24, _⟩ => ⟨S128x2048, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_stg8_0 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc1_scratch3 : Ref sig .tc := ⟨.vmem, 22, rfl⟩
abbrev cc1_scratch4 : Ref sig .tc := ⟨.vmem, 23, rfl⟩
abbrev cc1_scratch5 : Ref sig .tc := ⟨.vmem, 24, rfl⟩
abbrev cc0_sem0_0 : DmaSem sig := 0
abbrev cc0_sem0_1 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev grid1 : Pipeline.Grid := ⟨1, ![13], ![false]⟩

def k1_cond3 (i : grid1.Coords) : BitVec 1 :=
  let arg0 : BitVec 32 := BitVec.ofNat 32 (i 0).val
  let c12_i32 : BitVec 32 := 12#32
  let v176 : BitVec 1 := Scalar.cmpi .eq arg0 c12_i32
  let v177 : BitVec 32 := Scalar.extui v176
  let c0_i32_113 : BitVec 32 := 0#32
  let v178 : BitVec 1 := Scalar.cmpi .ne v177 c0_i32_113
  v178

def cc1_transform_0 (i : grid1.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c48_i32 : BitVec 32 := 48#32
  let v2 : BitVec 32 := Scalar.minsi v1 c48_i32
  let c0_i32_0 : BitVec 32 := 0#32
  let c0_i32_1 : BitVec 32 := 0#32
  ![c0_i32_0.toNat, v2.toNat]

def cc1_transform_1 (i : grid1.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_2 (i : grid1.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_3 (i : grid1.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_4 (i : grid1.Coords) : Fin 2 → Nat :=
  let arg0 : BitVec 32 := BitVec.ofNat 32 (i 0).val
  let c4_i32 : BitVec 32 := 4#32
  let v0 : BitVec 32 := Scalar.muli c4_i32 arg0
  let c0_i32 : BitVec 32 := 0#32
  let v1 : BitVec 32 := Scalar.addi v0 c0_i32
  let c48_i32 : BitVec 32 := 48#32
  let v2 : BitVec 32 := Scalar.minsi v1 c48_i32
  let c0_i32_0 : BitVec 32 := 0#32
  let c0_i32_1 : BitVec 32 := 0#32
  ![c0_i32_0.toNat, v2.toNat]

def cc1_transform_5 (i : grid1.Coords) : Fin 2 → Nat :=
  let arg0 : BitVec 32 := BitVec.ofNat 32 (i 0).val
  let c4_i32 : BitVec 32 := 4#32
  let v0 : BitVec 32 := Scalar.muli c4_i32 arg0
  let c1_i32 : BitVec 32 := 1#32
  let v1 : BitVec 32 := Scalar.addi v0 c1_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_6 (i : grid1.Coords) : Fin 2 → Nat :=
  let arg0 : BitVec 32 := BitVec.ofNat 32 (i 0).val
  let c4_i32 : BitVec 32 := 4#32
  let v0 : BitVec 32 := Scalar.muli c4_i32 arg0
  let c2_i32 : BitVec 32 := 2#32
  let v1 : BitVec 32 := Scalar.addi v0 c2_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_7 (i : grid1.Coords) : Fin 2 → Nat :=
  let arg0 : BitVec 32 := BitVec.ofNat 32 (i 0).val
  let c4_i32 : BitVec 32 := 4#32
  let v0 : BitVec 32 := Scalar.muli c4_i32 arg0
  let c3_i32 : BitVec 32 := 3#32
  let v1 : BitVec 32 := Scalar.addi v0 c3_i32
  let c48_i32 : BitVec 32 := 48#32
  let v2 : BitVec 32 := Scalar.minsi v1 c48_i32
  let c0_i32 : BitVec 32 := 0#32
  let c0_i32_0 : BitVec 32 := 0#32
  ![c0_i32.toNat, v2.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S128x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x2048 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x2048 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S128x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S128x1 .i32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]
-- ==== ReferenceIdeal.lean ====
abbrev S128x100000 : Shape := ⟨2, ![128, 100000]⟩
abbrev S_ : Shape := ⟨0, ![]⟩
abbrev S128 : Shape := ⟨1, ![128]⟩

abbrev nBuf : Space → Nat
  | .hbm => 256
  | .vmem => 0
  | .smem => 0
  | _ => 0

abbrev hbmTy0_0 (i : Nat) : BufTy := match i % 128 with
  | 0 => ⟨S128x100000, .f32⟩
  | 1 => ⟨S128x100000, .f32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S_, .i32⟩
  | 11 => ⟨S128x100000, .i32⟩
  | 12 => ⟨S128x100000, .i32⟩
  | 13 => ⟨S_, .i32⟩
  | 14 => ⟨S128x100000, .i32⟩
  | 15 => ⟨S128x100000, .i32⟩
  | 16 => ⟨S128x100000, .i32⟩
  | 17 => ⟨S_, .i32⟩
  | 18 => ⟨S128x100000, .i32⟩
  | 19 => ⟨S128x100000, .i32⟩
  | 20 => ⟨S_, .i32⟩
  | 21 => ⟨S128x100000, .i32⟩
  | 22 => ⟨S128x100000, .i32⟩
  | 23 => ⟨S128x100000, .i32⟩
  | 24 => ⟨S128x100000, .i32⟩
  | 25 => ⟨S128x100000, .i32⟩
  | 26 => ⟨S_, .i32⟩
  | 27 => ⟨S128x100000, .i32⟩
  | 28 => ⟨S128x100000, .i32⟩
  | 29 => ⟨S_, .i32⟩
  | 30 => ⟨S128x100000, .i32⟩
  | 31 => ⟨S128x100000, .i32⟩
  | 32 => ⟨S128x100000, .i32⟩
  | 33 => ⟨S128x100000, .i32⟩
  | 34 => ⟨S128x100000, .i32⟩
  | 35 => ⟨S_, .i32⟩
  | 36 => ⟨S128x100000, .i32⟩
  | 37 => ⟨S128x100000, .i32⟩
  | 38 => ⟨S_, .i32⟩
  | 39 => ⟨S128x100000, .i32⟩
  | 40 => ⟨S128x100000, .i32⟩
  | 41 => ⟨S128x100000, .i32⟩
  | 42 => ⟨S128x100000, .i32⟩
  | 43 => ⟨S128x100000, .i32⟩
  | 44 => ⟨S_, .i32⟩
  | 45 => ⟨S128x100000, .i32⟩
  | 46 => ⟨S128x100000, .i32⟩
  | 47 => ⟨S_, .i32⟩
  | 48 => ⟨S128x100000, .i32⟩
  | 49 => ⟨S128x100000, .i32⟩
  | 50 => ⟨S128x100000, .i32⟩
  | 51 => ⟨S128x100000, .i32⟩
  | 52 => ⟨S_, .i32⟩
  | 53 => ⟨S128x100000, .i32⟩
  | 54 => ⟨S128x100000, .i32⟩
  | 55 => ⟨S_, .i32⟩
  | 56 => ⟨S128x100000, .i32⟩
  | 57 => ⟨S128x100000, .i32⟩
  | 58 => ⟨S128x100000, .i32⟩
  | 59 => ⟨S_, .i32⟩
  | 60 => ⟨S128x100000, .i32⟩
  | 61 => ⟨S128x100000, .i32⟩
  | 62 => ⟨S_, .i32⟩
  | 63 => ⟨S128x100000, .i32⟩
  | 64 => ⟨S128x100000, .i32⟩
  | 65 => ⟨S128x100000, .i32⟩
  | 66 => ⟨S128x100000, .i32⟩
  | 67 => ⟨S128x100000, .i32⟩
  | 68 => ⟨S_, .i32⟩
  | 69 => ⟨S128x100000, .i32⟩
  | 70 => ⟨S128x100000, .i32⟩
  | 71 => ⟨S_, .i32⟩
  | 72 => ⟨S128x100000, .i32⟩
  | 73 => ⟨S128x100000, .i32⟩
  | 74 => ⟨S128x100000, .i32⟩
  | 75 => ⟨S128x100000, .i32⟩
  | 76 => ⟨S128x100000, .i32⟩
  | 77 => ⟨S_, .i32⟩
  | 78 => ⟨S128x100000, .i32⟩
  | 79 => ⟨S128x100000, .i32⟩
  | 80 => ⟨S_, .i32⟩
  | 81 => ⟨S128x100000, .i32⟩
  | 82 => ⟨S128x100000, .i32⟩
  | 83 => ⟨S128x100000, .i32⟩
  | 84 => ⟨S128x100000, .i32⟩
  | 85 => ⟨S128x100000, .i32⟩
  | 86 => ⟨S_, .i32⟩
  | 87 => ⟨S128x100000, .i32⟩
  | 88 => ⟨S128x100000, .i32⟩
  | 89 => ⟨S_, .i32⟩
  | 90 => ⟨S128x100000, .i32⟩
  | 91 => ⟨S128x100000, .i32⟩
  | 92 => ⟨S128x100000, .i32⟩
  | 93 => ⟨S128x100000, .i32⟩
  | 94 => ⟨S_, .i32⟩
  | 95 => ⟨S128x100000, .i32⟩
  | 96 => ⟨S128x100000, .i32⟩
  | 97 => ⟨S_, .i32⟩
  | 98 => ⟨S128x100000, .i32⟩
  | 99 => ⟨S128x100000, .i32⟩
  | 100 => ⟨S128x100000, .i32⟩
  | 101 => ⟨S_, .i32⟩
  | 102 => ⟨S128x100000, .i32⟩
  | 103 => ⟨S128x100000, .i32⟩
  | 104 => ⟨S_, .i32⟩
  | 105 => ⟨S128x100000, .i32⟩
  | 106 => ⟨S128x100000, .i32⟩
  | 107 => ⟨S128x100000, .i32⟩
  | 108 => ⟨S128x100000, .i32⟩
  | 109 => ⟨S128x100000, .i32⟩
  | 110 => ⟨S_, .i32⟩
  | 111 => ⟨S128x100000, .i32⟩
  | 112 => ⟨S128x100000, .i32⟩
  | 113 => ⟨S_, .i32⟩
  | 114 => ⟨S128x100000, .i32⟩
  | 115 => ⟨S128x100000, .i32⟩
  | 116 => ⟨S128x100000, .i32⟩
  | 117 => ⟨S128x100000, .i32⟩
  | 118 => ⟨S128x100000, .i32⟩
  | 119 => ⟨S_, .i32⟩
  | 120 => ⟨S128x100000, .i32⟩
  | 121 => ⟨S128x100000, .i32⟩
  | 122 => ⟨S_, .i32⟩
  | 123 => ⟨S128x100000, .i32⟩
  | 124 => ⟨S128x100000, .i32⟩
  | 125 => ⟨S128x100000, .i32⟩
  | 126 => ⟨S128x100000, .i32⟩
  | 127 => ⟨S128x100000, .i32⟩
  | _ => ⟨S128x100000, .f32⟩

abbrev hbmTy0_1 (i : Nat) : BufTy := match i % 128 with
  | 0 => ⟨S_, .i32⟩
  | 1 => ⟨S128x100000, .i32⟩
  | 2 => ⟨S128x100000, .i32⟩
  | 3 => ⟨S_, .i32⟩
  | 4 => ⟨S128x100000, .i32⟩
  | 5 => ⟨S128x100000, .i32⟩
  | 6 => ⟨S128x100000, .i32⟩
  | 7 => ⟨S128x100000, .i32⟩
  | 8 => ⟨S_, .i32⟩
  | 9 => ⟨S128x100000, .i32⟩
  | 10 => ⟨S128x100000, .i32⟩
  | 11 => ⟨S_, .i32⟩
  | 12 => ⟨S128x100000, .i32⟩
  | 13 => ⟨S128x100000, .i32⟩
  | 14 => ⟨S128x100000, .i32⟩
  | 15 => ⟨S_, .i32⟩
  | 16 => ⟨S128x100000, .i32⟩
  | 17 => ⟨S128x100000, .i32⟩
  | 18 => ⟨S_, .i32⟩
  | 19 => ⟨S128x100000, .i32⟩
  | 20 => ⟨S128x100000, .i32⟩
  | 21 => ⟨S128x100000, .i32⟩
  | 22 => ⟨S128x100000, .i32⟩
  | 23 => ⟨S128x100000, .i32⟩
  | 24 => ⟨S_, .i32⟩
  | 25 => ⟨S128x100000, .i32⟩
  | 26 => ⟨S128x100000, .i32⟩
  | 27 => ⟨S_, .i32⟩
  | 28 => ⟨S128x100000, .i32⟩
  | 29 => ⟨S128x100000, .i32⟩
  | 30 => ⟨S128x100000, .i32⟩
  | 31 => ⟨S128x100000, .i32⟩
  | 32 => ⟨S128x100000, .i32⟩
  | 33 => ⟨S_, .i32⟩
  | 34 => ⟨S128x100000, .i32⟩
  | 35 => ⟨S128x100000, .i32⟩
  | 36 => ⟨S_, .i32⟩
  | 37 => ⟨S128x100000, .i32⟩
  | 38 => ⟨S128x100000, .i32⟩
  | 39 => ⟨S128x100000, .i32⟩
  | 40 => ⟨S128x100000, .i32⟩
  | 41 => ⟨S128x100000, .i32⟩
  | 42 => ⟨S_, .i32⟩
  | 43 => ⟨S128x100000, .i32⟩
  | 44 => ⟨S128x100000, .i32⟩
  | 45 => ⟨S_, .i32⟩
  | 46 => ⟨S128x100000, .i32⟩
  | 47 => ⟨S128x100000, .i32⟩
  | 48 => ⟨S128x100000, .i32⟩
  | 49 => ⟨S128x100000, .i32⟩
  | 50 => ⟨S_, .i32⟩
  | 51 => ⟨S128x100000, .i32⟩
  | 52 => ⟨S128x100000, .i32⟩
  | 53 => ⟨S_, .i32⟩
  | 54 => ⟨S128x100000, .i32⟩
  | 55 => ⟨S128x100000, .i32⟩
  | 56 => ⟨S128x100000, .i32⟩
  | 57 => ⟨S_, .i32⟩
  | 58 => ⟨S128x100000, .i32⟩
  | 59 => ⟨S128x100000, .i32⟩
  | 60 => ⟨S_, .i32⟩
  | 61 => ⟨S128x100000, .i32⟩
  | 62 => ⟨S128x100000, .i32⟩
  | 63 => ⟨S128x100000, .i32⟩
  | 64 => ⟨S128x100000, .i32⟩
  | 65 => ⟨S128x100000, .i32⟩
  | 66 => ⟨S_, .i32⟩
  | 67 => ⟨S128x100000, .i32⟩
  | 68 => ⟨S128x100000, .i32⟩
  | 69 => ⟨S_, .i32⟩
  | 70 => ⟨S128x100000, .i32⟩
  | 71 => ⟨S128x100000, .i32⟩
  | 72 => ⟨S128x100000, .i32⟩
  | 73 => ⟨S128x100000, .i32⟩
  | 74 => ⟨S128x100000, .i32⟩
  | 75 => ⟨S_, .i32⟩
  | 76 => ⟨S128x100000, .i32⟩
  | 77 => ⟨S128x100000, .i32⟩
  | 78 => ⟨S_, .i32⟩
  | 79 => ⟨S128x100000, .i32⟩
  | 80 => ⟨S128x100000, .i32⟩
  | 81 => ⟨S128x100000, .i32⟩
  | 82 => ⟨S128x100000, .i32⟩
  | 83 => ⟨S128x100000, .i32⟩
  | 84 => ⟨S_, .i32⟩
  | 85 => ⟨S128x100000, .i32⟩
  | 86 => ⟨S128x100000, .i32⟩
  | 87 => ⟨S_, .i32⟩
  | 88 => ⟨S128x100000, .i32⟩
  | 89 => ⟨S128x100000, .i32⟩
  | 90 => ⟨S128x100000, .i32⟩
  | 91 => ⟨S128x100000, .i32⟩
  | 92 => ⟨S_, .i32⟩
  | 93 => ⟨S128x100000, .i32⟩
  | 94 => ⟨S128x100000, .i32⟩
  | 95 => ⟨S_, .i32⟩
  | 96 => ⟨S128x100000, .i32⟩
  | 97 => ⟨S128x100000, .i32⟩
  | 98 => ⟨S128x100000, .i32⟩
  | 99 => ⟨S_, .i32⟩
  | 100 => ⟨S128x100000, .i32⟩
  | 101 => ⟨S128x100000, .i32⟩
  | 102 => ⟨S_, .i32⟩
  | 103 => ⟨S128x100000, .i32⟩
  | 104 => ⟨S128x100000, .i32⟩
  | 105 => ⟨S128x100000, .f32⟩
  | 106 => ⟨S_, .f32⟩
  | 107 => ⟨S128x100000, .f32⟩
  | 108 => ⟨S128x100000, .f32⟩
  | 109 => ⟨S_, .f32⟩
  | 110 => ⟨S128x100000, .f32⟩
  | 111 => ⟨S128x100000, .f32⟩
  | 112 => ⟨S_, .f32⟩
  | 113 => ⟨S128x100000, .f32⟩
  | 114 => ⟨S128x100000, .f32⟩
  | 115 => ⟨S_, .f32⟩
  | 116 => ⟨S128x100000, .f32⟩
  | 117 => ⟨S128x100000, .f32⟩
  | 118 => ⟨S128x100000, .f32⟩
  | 119 => ⟨S128x100000, .f32⟩
  | 120 => ⟨S128x100000, .f32⟩
  | 121 => ⟨S128x100000, .f32⟩
  | 122 => ⟨S128x100000, .f32⟩
  | 123 => ⟨S128x100000, .i32⟩
  | 124 => ⟨S_, .f32⟩
  | 125 => ⟨S_, .i32⟩
  | 126 => ⟨S128, .f32⟩
  | 127 => ⟨S128, .i32⟩
  | _ => ⟨S128x100000, .f32⟩

abbrev hbmTy (i : Nat) : BufTy := match i / 128 with
  | 0 => hbmTy0_0 i
  | 1 => hbmTy0_1 i
  | _ => ⟨S128x100000, .f32⟩

abbrev bufTy : (tb : Table) → Fin (tcTables nBuf tb) → BufTy
  | .hbm, ⟨i, _⟩ => hbmTy i
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c_0 : Ref sig .tc := ⟨.hbm, 8, rfl⟩
abbrev main_v6 : Ref sig .tc := ⟨.hbm, 9, rfl⟩
abbrev main_c_1 : Ref sig .tc := ⟨.hbm, 10, rfl⟩
abbrev main_v7 : Ref sig .tc := ⟨.hbm, 11, rfl⟩
abbrev main_v8 : Ref sig .tc := ⟨.hbm, 12, rfl⟩
abbrev main_c_2 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_3 : Ref sig .tc := ⟨.hbm, 17, rfl⟩
abbrev main_v12 : Ref sig .tc := ⟨.hbm, 18, rfl⟩
abbrev main_v13 : Ref sig .tc := ⟨.hbm, 19, rfl⟩
abbrev main_c_4 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_5 : Ref sig .tc := ⟨.hbm, 26, rfl⟩
abbrev main_v19 : Ref sig .tc := ⟨.hbm, 27, rfl⟩
abbrev main_v20 : Ref sig .tc := ⟨.hbm, 28, rfl⟩
abbrev main_c_6 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_7 : Ref sig .tc := ⟨.hbm, 35, rfl⟩
abbrev main_v26 : Ref sig .tc := ⟨.hbm, 36, rfl⟩
abbrev main_v27 : Ref sig .tc := ⟨.hbm, 37, rfl⟩
abbrev main_c_8 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_9 : Ref sig .tc := ⟨.hbm, 44, rfl⟩
abbrev main_v33 : Ref sig .tc := ⟨.hbm, 45, rfl⟩
abbrev main_v34 : Ref sig .tc := ⟨.hbm, 46, rfl⟩
abbrev main_c_10 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_11 : Ref sig .tc := ⟨.hbm, 52, rfl⟩
abbrev main_v39 : Ref sig .tc := ⟨.hbm, 53, rfl⟩
abbrev main_v40 : Ref sig .tc := ⟨.hbm, 54, rfl⟩
abbrev main_c_12 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c_13 : Ref sig .tc := ⟨.hbm, 59, rfl⟩
abbrev main_v44 : Ref sig .tc := ⟨.hbm, 60, rfl⟩
abbrev main_v45 : Ref sig .tc := ⟨.hbm, 61, rfl⟩
abbrev main_c_14 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_15 : Ref sig .tc := ⟨.hbm, 68, rfl⟩
abbrev main_v51 : Ref sig .tc := ⟨.hbm, 69, rfl⟩
abbrev main_v52 : Ref sig .tc := ⟨.hbm, 70, rfl⟩
abbrev main_c_16 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_c_17 : Ref sig .tc := ⟨.hbm, 77, rfl⟩
abbrev main_v58 : Ref sig .tc := ⟨.hbm, 78, rfl⟩
abbrev main_v59 : Ref sig .tc := ⟨.hbm, 79, rfl⟩
abbrev main_c_18 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_19 : Ref sig .tc := ⟨.hbm, 86, rfl⟩
abbrev main_v65 : Ref sig .tc := ⟨.hbm, 87, rfl⟩
abbrev main_v66 : Ref sig .tc := ⟨.hbm, 88, rfl⟩
abbrev main_c_20 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_c_21 : Ref sig .tc := ⟨.hbm, 94, rfl⟩
abbrev main_v71 : Ref sig .tc := ⟨.hbm, 95, rfl⟩
abbrev main_v72 : Ref sig .tc := ⟨.hbm, 96, rfl⟩
abbrev main_c_22 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_c_23 : Ref sig .tc := ⟨.hbm, 101, rfl⟩
abbrev main_v76 : Ref sig .tc := ⟨.hbm, 102, rfl⟩
abbrev main_v77 : Ref sig .tc := ⟨.hbm, 103, rfl⟩
abbrev main_c_24 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_25 : Ref sig .tc := ⟨.hbm, 110, rfl⟩
abbrev main_v83 : Ref sig .tc := ⟨.hbm, 111, rfl⟩
abbrev main_v84 : Ref sig .tc := ⟨.hbm, 112, rfl⟩
abbrev main_c_26 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_c_27 : Ref sig .tc := ⟨.hbm, 119, rfl⟩
abbrev main_v90 : Ref sig .tc := ⟨.hbm, 120, rfl⟩
abbrev main_v91 : Ref sig .tc := ⟨.hbm, 121, rfl⟩
abbrev main_c_28 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_c_29 : Ref sig .tc := ⟨.hbm, 128, rfl⟩
abbrev main_v97 : Ref sig .tc := ⟨.hbm, 129, rfl⟩
abbrev main_v98 : Ref sig .tc := ⟨.hbm, 130, rfl⟩
abbrev main_c_30 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_31 : Ref sig .tc := ⟨.hbm, 136, rfl⟩
abbrev main_v103 : Ref sig .tc := ⟨.hbm, 137, rfl⟩
abbrev main_v104 : Ref sig .tc := ⟨.hbm, 138, rfl⟩
abbrev main_c_32 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_33 : Ref sig .tc := ⟨.hbm, 143, rfl⟩
abbrev main_v108 : Ref sig .tc := ⟨.hbm, 144, rfl⟩
abbrev main_v109 : Ref sig .tc := ⟨.hbm, 145, rfl⟩
abbrev main_c_34 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_35 : Ref sig .tc := ⟨.hbm, 152, rfl⟩
abbrev main_v115 : Ref sig .tc := ⟨.hbm, 153, rfl⟩
abbrev main_v116 : Ref sig .tc := ⟨.hbm, 154, rfl⟩
abbrev main_c_36 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_37 : Ref sig .tc := ⟨.hbm, 161, rfl⟩
abbrev main_v122 : Ref sig .tc := ⟨.hbm, 162, rfl⟩
abbrev main_v123 : Ref sig .tc := ⟨.hbm, 163, rfl⟩
abbrev main_c_38 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_c_39 : Ref sig .tc := ⟨.hbm, 170, rfl⟩
abbrev main_v129 : Ref sig .tc := ⟨.hbm, 171, rfl⟩
abbrev main_v130 : Ref sig .tc := ⟨.hbm, 172, rfl⟩
abbrev main_c_40 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_c_41 : Ref sig .tc := ⟨.hbm, 178, rfl⟩
abbrev main_v135 : Ref sig .tc := ⟨.hbm, 179, rfl⟩
abbrev main_v136 : Ref sig .tc := ⟨.hbm, 180, rfl⟩
abbrev main_c_42 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_c_43 : Ref sig .tc := ⟨.hbm, 185, rfl⟩
abbrev main_v140 : Ref sig .tc := ⟨.hbm, 186, rfl⟩
abbrev main_v141 : Ref sig .tc := ⟨.hbm, 187, rfl⟩
abbrev main_c_44 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_c_45 : Ref sig .tc := ⟨.hbm, 194, rfl⟩
abbrev main_v147 : Ref sig .tc := ⟨.hbm, 195, rfl⟩
abbrev main_v148 : Ref sig .tc := ⟨.hbm, 196, rfl⟩
abbrev main_c_46 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_c_47 : Ref sig .tc := ⟨.hbm, 203, rfl⟩
abbrev main_v154 : Ref sig .tc := ⟨.hbm, 204, rfl⟩
abbrev main_v155 : Ref sig .tc := ⟨.hbm, 205, rfl⟩
abbrev main_c_48 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_c_49 : Ref sig .tc := ⟨.hbm, 212, rfl⟩
abbrev main_v161 : Ref sig .tc := ⟨.hbm, 213, rfl⟩
abbrev main_v162 : Ref sig .tc := ⟨.hbm, 214, rfl⟩
abbrev main_c_50 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_c_51 : Ref sig .tc := ⟨.hbm, 220, rfl⟩
abbrev main_v167 : Ref sig .tc := ⟨.hbm, 221, rfl⟩
abbrev main_v168 : Ref sig .tc := ⟨.hbm, 222, rfl⟩
abbrev main_c_52 : Ref sig .tc := ⟨.hbm, 223, rfl⟩
abbrev main_v169 : Ref sig .tc := ⟨.hbm, 224, rfl⟩
abbrev main_v170 : Ref sig .tc := ⟨.hbm, 225, rfl⟩
abbrev main_v171 : Ref sig .tc := ⟨.hbm, 226, rfl⟩
abbrev main_c_53 : Ref sig .tc := ⟨.hbm, 227, rfl⟩
abbrev main_v172 : Ref sig .tc := ⟨.hbm, 228, rfl⟩
abbrev main_v173 : Ref sig .tc := ⟨.hbm, 229, rfl⟩
abbrev main_c_54 : Ref sig .tc := ⟨.hbm, 230, rfl⟩
abbrev main_v174 : Ref sig .tc := ⟨.hbm, 231, rfl⟩
abbrev main_v175 : Ref sig .tc := ⟨.hbm, 232, rfl⟩
abbrev main_v176 : Ref sig .tc := ⟨.hbm, 233, rfl⟩
abbrev main_cst : Ref sig .tc := ⟨.hbm, 234, rfl⟩
abbrev main_v177 : Ref sig .tc := ⟨.hbm, 235, rfl⟩
abbrev main_v178 : Ref sig .tc := ⟨.hbm, 236, rfl⟩
abbrev main_cst_55 : Ref sig .tc := ⟨.hbm, 237, rfl⟩
abbrev main_v179 : Ref sig .tc := ⟨.hbm, 238, rfl⟩
abbrev main_v180 : Ref sig .tc := ⟨.hbm, 239, rfl⟩
abbrev main_cst_56 : Ref sig .tc := ⟨.hbm, 240, rfl⟩
abbrev main_v181 : Ref sig .tc := ⟨.hbm, 241, rfl⟩
abbrev main_v182 : Ref sig .tc := ⟨.hbm, 242, rfl⟩
abbrev main_cst_57 : Ref sig .tc := ⟨.hbm, 243, rfl⟩
abbrev main_v183 : Ref sig .tc := ⟨.hbm, 244, rfl⟩
abbrev main_v184 : Ref sig .tc := ⟨.hbm, 245, rfl⟩
abbrev main_v185 : Ref sig .tc := ⟨.hbm, 246, rfl⟩
abbrev main_v186 : Ref sig .tc := ⟨.hbm, 247, rfl⟩
abbrev main_v187 : Ref sig .tc := ⟨.hbm, 248, rfl⟩
abbrev main_v188 : Ref sig .tc := ⟨.hbm, 249, rfl⟩
abbrev main_v189 : Ref sig .tc := ⟨.hbm, 250, rfl⟩
abbrev main_call0_v0 : Ref sig .tc := ⟨.hbm, 251, rfl⟩
abbrev main_call0_cst : Ref sig .tc := ⟨.hbm, 252, rfl⟩
abbrev main_call0_c : Ref sig .tc := ⟨.hbm, 253, rfl⟩
abbrev main_call0_v1_0 : Ref sig .tc := ⟨.hbm, 254, rfl⟩
abbrev main_v190 : Ref sig .tc := ⟨.hbm, 255, rfl⟩

abbrev nD : Nat := 1
abbrev τ : Topo := Topo.v7x

variable {F : FTy → Type} [FloatOps F]
-- ==== Proof.Ideal.Step.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.VecWindow
public import Idealize.ShloMosaic.Lib.Claim
public import Idealize.ShloMosaic.Lib.Ring
public import Idealize.ShloMosaic.Lib.Tactic
public import Idealize.ShloMosaic.Lib.Tactic.Stretches
public import Idealize.ShloMosaic.Lib.UnfoldOut
public import Idealize.ShloMosaic.Lib.WordCmp

/-! The body of the scoring call as a function on the six scratch buffers: what one grid point makes of the running best two
    scores of every lane, and what the last point emits. `score_mid` and `score_last` are the body's two triples. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole block reads the block. -/
theorem rd {sp : Space} {e : EltTy} (v : View sig .tc sp S128x2048 e) (f : v.ty.Contents (Elt F)) :
    v.readAt (Elt F) (Rect.unit (s := S128x2048) ![0, 0] ![128, 2048] inb_S128x2048_S128x2048_0_0).toLoadRect f = v.read (Elt F) f :=
  View.readAt_full v f _

/-- A block reads as what was last stored over the whole of it. -/
theorem rw' {sp : Space} {e : EltTy} (v : View sig .tc sp S128x2048 e) (f : v.ty.Contents (Elt F)) (w : S128x2048.Idx → Elt F e)
    (L : List (View.Piece (Elt F) S128x2048 e)) :
    v.read (Elt F) (v.writes (Elt F) f (⟨Rect.unit (s := S128x2048) ![0, 0] ![128, 2048] inb_S128x2048_S128x2048_0_0, w⟩ :: L)) = w :=
  View.read_writes_full v f _ w L

/-- A load of a whole block stated over the stores alone reads the last of them. -/
theorem rc {sp : Space} {e : EltTy} (v : View sig .tc sp S128x2048 e) (w : S128x2048.Idx → Elt F e)
    (L : List (View.Piece (Elt F) S128x2048 e)) :
    v.readCov (⟨Rect.unit (s := S128x2048) ![0, 0] ![128, 2048] inb_S128x2048_S128x2048_0_0, w⟩ :: L)
      (Rect.unit (s := S128x2048) ![0, 0] ![128, 2048] inb_S128x2048_S128x2048_0_0).toLoadRect = w :=
  View.readCov_full v _ _ w L

/-- A block of 128 rows and 2048 lanes of floats. -/
abbrev Blk (F : FTy → Type) := FVec F S128x2048 .f32

/-- The six scratch buffers: of every lane the best score, its logarithm and its column, and the same of the second best. -/
structure Sc (F : FTy → Type) where
  /-- the best score -/
  s1 : Blk F
  /-- the logarithm of the best -/
  l1 : Blk F
  /-- the column of the best -/
  c1 : IVec S128x2048 32
  /-- the second best score -/
  s2 : Blk F
  /-- the logarithm of the second best -/
  l2 : Blk F
  /-- the column of the second best -/
  c2 : IVec S128x2048 32

/-- The first block of the first point: its scores are the best, and there is no second best. -/
def first (i : grid1.Coords) (x : Blk F) (g : FVec F S128x2048 .bf16) : Sc F :=
  ⟨k1_pay101 i x g, k1_pay102 x, k1_pay103 i, k1_pay104, k1_pay105, k1_pay106⟩

/-- The first block of a later point, entered into the running best two. -/
def ins0 (i : grid1.Coords) (x : Blk F) (g : FVec F S128x2048 .bf16) (S : Sc F) : Sc F :=
  ⟨k1_pay9 (k1_pay100 i x g) S.s1, k1_pay107 (k1_pay10 (k1_pay99 x) (k1_pay100 i x g) S.s1 S.l1),
    k1_pay108 (F := F) i (k1_pay4 (k1_pay100 i x g) S.s1) S.c1, k1_pay6 (k1_pay100 i x g) S.s1 S.s2,
    k1_pay7 (k1_pay99 x) (k1_pay100 i x g) S.s1 S.s2 S.l1 S.l2, k1_pay8 (k1_pay98 i) (k1_pay100 i x g) S.s1 S.s2 S.c1 S.c2⟩

/-- The second block of a point, entered. -/
def ins1 (i : grid1.Coords) (x : Blk F) (g : FVec F S128x2048 .bf16) (S : Sc F) : Sc F :=
  ⟨k1_pay117 (k1_pay111 i x g) S.s1, k1_pay119 (k1_pay118 (k1_pay110 x) (k1_pay111 i x g) S.s1 S.l1),
    k1_pay120 (F := F) (k1_pay109 i) (k1_pay112 (k1_pay111 i x g) S.s1) S.c1, k1_pay114 (k1_pay111 i x g) S.s1 S.s2,
    k1_pay115 (k1_pay110 x) (k1_pay111 i x g) S.s1 S.s2 S.l1 S.l2,
    k1_pay116 (k1_pay109 i) (k1_pay111 i x g) S.s1 S.s2 S.c1 S.c2⟩

/-- The third block of a point, entered. -/
def ins2 (i : grid1.Coords) (x : Blk F) (g : FVec F S128x2048 .bf16) (S : Sc F) : Sc F :=
  ⟨k1_pay130 (k1_pay123 (k1_pay97 i) x g) S.s1 (k1_pay124 (k1_pay97 i) x g S.s1),
    k1_pay131 (k1_pay122 x) (k1_pay124 (k1_pay97 i) x g S.s1) S.l1,
    k1_pay132 (F := F) (k1_pay121 (k1_pay97 i)) (k1_pay124 (k1_pay97 i) x g S.s1) S.c1,
    k1_pay126 (k1_pay97 i) x g S.s1 S.s2,
    k1_pay128 (k1_pay127 (k1_pay97 i) x g S.s1 S.s2 S.l1 S.l2),
    k1_pay129 (F := F) (k1_pay121 (k1_pay97 i)) (k1_pay124 (k1_pay97 i) x g S.s1) (k1_pay125 (k1_pay97 i) x g S.s1 S.s2) S.c1 S.c2⟩

/-- The fourth block of a point, entered. -/
def ins3 (i : grid1.Coords) (x : Blk F) (g : FVec F S128x2048 .bf16) (S : Sc F) : Sc F :=
  ⟨k1_pay143 (k1_pay133 (k1_pay97 i)) (k1_pay135 x g) k1_pay136 S.s1,
    k1_pay1 (k1_pay134 x) (k1_pay138 (k1_pay133 (k1_pay97 i)) (k1_pay135 x g) k1_pay136 S.s1) S.l1,
    k1_pay2 (F := F) (k1_pay133 (k1_pay97 i)) (k1_pay138 (k1_pay133 (k1_pay97 i)) (k1_pay135 x g) k1_pay136 S.s1) S.c1,
    k1_pay140 (k1_pay133 (k1_pay97 i)) (k1_pay135 x g) k1_pay136 S.s1 S.s2,
    k1_pay141 (k1_pay133 (k1_pay97 i)) (k1_pay134 x) (k1_pay135 x g) k1_pay136 S.s1 S.s2 S.l1 S.l2,
    k1_pay142 (k1_pay133 (k1_pay97 i)) (k1_pay135 x g) k1_pay136 S.s1 S.s2 S.c1 S.c2⟩

/-- The word that says whether the grid point is the first. -/
def isFirst (i : grid1.Coords) : BitVec 1 :=
  Scalar.cmpi .ne (Scalar.extui (Scalar.cmpi .eq (BitVec.ofNat 32 (i 0).val) 0#32) : BitVec 32) 0#32

/-- The word that says whether the grid point is a later one. -/
def isLater (i : grid1.Coords) : BitVec 1 :=
  Scalar.cmpi .ne (Scalar.extui (Scalar.cmpi .sgt (BitVec.ofNat 32 (i 0).val) 0#32) : BitVec 32) 0#32

/-- What the first of a point's four blocks makes of the scratch. -/
def lead (i : grid1.Coords) (x : Blk F) (g : FVec F S128x2048 .bf16) (S : Sc F) : Sc F :=
  if isFirst i = 1#1 then (if isLater i = 1#1 then ins0 i x g (first i x g) else first i x g)
  else (if isLater i = 1#1 then ins0 i x g S else S)

/-- What a grid point makes of the scratch, its four blocks of logits `x0 … x3` and of the table `g0 … g3`. -/
def step (i : grid1.Coords) (x0 x1 x2 x3 : Blk F) (g0 g1 g2 g3 : FVec F S128x2048 .bf16) (S : Sc F) : Sc F :=
  ins3 i x3 g3 (ins2 i x2 g2 (ins1 i x1 g1 (lead i x0 g0 S)))

/-- The key schedule's third word. -/
def keyWord : BitVec 32 := 466689008#32

/-- The scores of the lanes' best, computed anew from logarithm and column. -/
def rescore1 (c1 : IVec S128x2048 32) (l1 : Blk F) : Blk F :=
  let a1 := k1_pay18 (F := F) c1
  let a2 := k1_pay19 (F := F) c1
  let b1 := k1_pay29 keyWord a1 a2
  let b2 := k1_pay30 keyWord a1 a2
  let d1 := k1_pay41 b1 b2
  let d2 := k1_pay42 b1 b2
  let d3 := k1_pay43 b1 b2
  k1_pay56 c1 l1 (k1_pay54 keyWord d1 d2 d3 16#32) (k1_pay55 keyWord d1 d2 d3 16#32) 0#32

/-- The uniform variate's negated logarithm at the columns of the second best. -/
def rescore2 (c2 : IVec S128x2048 32) : Blk F :=
  let a1 := k1_pay57
  let a2 := k1_pay58 (F := F) (iota .tc S128x2048 32 [0] iota_S128x2048_d0_w32) c2
  let b1 := k1_pay69 keyWord a1 a2
  let b2 := k1_pay70 keyWord a1 a2
  let b3 := k1_pay71 keyWord a1 a2
  let d1 := k1_pay82 keyWord b1 b2 b3
  let d2 := k1_pay83 keyWord b1 b2 b3
  let d3 := k1_pay84 keyWord b1 b2 b3
  k1_pay96 keyWord (k1_pay93 keyWord d1 d2 d3 26#32) (k1_pay94 keyWord d1 d2 d3 26#32) k1_pay95

/-- What the last grid point emits of the scratch. -/
def emit (S : Sc F) : IVec S128x1 32 :=
  k1_pay3 S.c1 (rescore1 S.c1 S.l1) S.c2 S.l2 (rescore2 S.c2) (Scalar.ofBits .f32 0x00000000#32)

set_option maxHeartbeats 4000000 in
/-- The body at a point before the last: the scratch takes a step, the output buffer is as it was. -/
theorem score_mid (c : Dev nD) (E : Set ℕ) (i : grid1.Coords)
    (arg1 : Memref sig .tc .vmem S128x2048 .f32) (harg1 : arg1.IsWhole)
    (arg2 : Memref sig .tc .vmem S128x2048 .f32) (harg2 : arg2.IsWhole)
    (arg3 : Memref sig .tc .vmem S128x2048 .f32) (harg3 : arg3.IsWhole)
    (arg4 : Memref sig .tc .vmem S128x2048 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x2048 .bf16) (harg7 : arg7.IsWhole)
    (arg8 : Memref sig .tc .vmem S128x2048 .bf16) (harg8 : arg8.IsWhole)
    (arg9 : Memref sig .tc .vmem S128x1 .i32) (harg9 : arg9.IsWhole)
    (arg10 : Memref sig .tc .vmem S128x2048 .f32) (harg10 : arg10.IsWhole)
    (arg11 : Memref sig .tc .vmem S128x2048 .f32) (harg11 : arg11.IsWhole)
    (arg12 : Memref sig .tc .vmem S128x2048 .i32) (harg12 : arg12.IsWhole)
    (arg13 : Memref sig .tc .vmem S128x2048 .f32) (harg13 : arg13.IsWhole)
    (arg14 : Memref sig .tc .vmem S128x2048 .f32) (harg14 : arg14.IsWhole)
    (arg15 : Memref sig .tc .vmem S128x2048 .i32) (harg15 : arg15.IsWhole)
    (x0 x1 x2 x3 : Blk F) (g0 g1 g2 g3 : FVec F S128x2048 .bf16) (o : IVec S128x1 32) (S : Sc F)
    (hC : ¬ k1_cond3 i = 1#1)
    (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare g0
      ∗ owns (c : Thread nD τ) arg6 fullShare g1
      ∗ owns (c : Thread nD τ) arg7 fullShare g2
      ∗ owns (c : Thread nD τ) arg8 fullShare g3
      ∗ owns (c : Thread nD τ) arg9 fullShare o
      ∗ owns (c : Thread nD τ) arg10 fullShare S.s1
      ∗ owns (c : Thread nD τ) arg11 fullShare S.l1
      ∗ owns (c : Thread nD τ) arg12 fullShare S.c1
      ∗ owns (c : Thread nD τ) arg13 fullShare S.s2
      ∗ owns (c : Thread nD τ) arg14 fullShare S.l2
      ∗ owns (c : Thread nD τ) arg15 fullShare S.c2
      ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare g0
      ∗ owns (c : Thread nD τ) arg6 fullShare g1
      ∗ owns (c : Thread nD τ) arg7 fullShare g2
      ∗ owns (c : Thread nD τ) arg8 fullShare g3
      ∗ owns (c : Thread nD τ) arg9 fullShare o
      ∗ owns (c : Thread nD τ) arg10 fullShare (step i x0 x1 x2 x3 g0 g1 g2 g3 S).s1
      ∗ owns (c : Thread nD τ) arg11 fullShare (step i x0 x1 x2 x3 g0 g1 g2 g3 S).l1
      ∗ owns (c : Thread nD τ) arg12 fullShare (step i x0 x1 x2 x3 g0 g1 g2 g3 S).c1
      ∗ owns (c : Thread nD τ) arg13 fullShare (step i x0 x1 x2 x3 g0 g1 g2 g3 S).s2
      ∗ owns (c : Thread nD τ) arg14 fullShare (step i x0 x1 x2 x3 g0 g1 g2 g3 S).l2
      ∗ owns (c : Thread nD τ) arg15 fullShare (step i x0 x1 x2 x3 g0 g1 g2 g3 S).c2) -∗ K ⟨⟩))
      ⊢ wp frame (wpE (defs₀ (F := F)) Variants.none c none) E (cc1__score_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__score_body_eq_skeleton]; unfold cc1__score_body_skel
  simp only [k1_part1_eq_skeleton, k1_part11_eq_skeleton, k1_part12_eq_skeleton, k1_part13_eq_skeleton, k1_part14_eq_skeleton, k1_part15_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  sl_exec (disch := sl_exact hC)
  sl_step
  iapply Hk
  isplitl [H1]
  · iexists _; isplitr
    swap; · iexact H1
    ipureintro
    exact e1
  isplitl [H2]
  · iexists _; isplitr
    swap; · iexact H2
    ipureintro
    exact e2
  isplitl [H3]
  · iexists _; isplitr
    swap; · iexact H3
    ipureintro
    exact e3
  isplitl [H4]
  · iexists _; isplitr
    swap; · iexact H4
    ipureintro
    exact e4
  isplitl [H5]
  · iexists _; isplitr
    swap; · iexact H5
    ipureintro
    exact e5
  isplitl [H6]
  · iexists _; isplitr
    swap; · iexact H6
    ipureintro
    exact e6
  isplitl [H7]
  · iexists _; isplitr
    swap; · iexact H7
    ipureintro
    exact e7
  isplitl [H8]
  · iexists _; isplitr
    swap; · iexact H8
    ipureintro
    exact e8
  isplitl [H9]
  · iexists _; isplitr
    swap; · iexact H9
    ipureintro
    exact e9
  isplitl [H10]
  · iexists _; isplitr
    swap; · iexact H10
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  isplitl [H11]
  · iexists _; isplitr
    swap; · iexact H11
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  isplitl [H12]
  · iexists _; isplitr
    swap; · iexact H12
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  isplitl [H13]
  · iexists _; isplitr
    swap; · iexact H13
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  isplitl [H14]
  · iexists _; isplitr
    swap; · iexact H14
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  · iexists _; isplitr
    swap; · iexact H15
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]

set_option maxHeartbeats 4000000 in
/-- The body at the last point: the scratch takes a step, and the output is emitted of it. -/
theorem score_last (c : Dev nD) (E : Set ℕ) (i : grid1.Coords)
    (arg1 : Memref sig .tc .vmem S128x2048 .f32) (harg1 : arg1.IsWhole)
    (arg2 : Memref sig .tc .vmem S128x2048 .f32) (harg2 : arg2.IsWhole)
    (arg3 : Memref sig .tc .vmem S128x2048 .f32) (harg3 : arg3.IsWhole)
    (arg4 : Memref sig .tc .vmem S128x2048 .f32) (harg4 : arg4.IsWhole)
    (arg5 : Memref sig .tc .vmem S128x2048 .bf16) (harg5 : arg5.IsWhole)
    (arg6 : Memref sig .tc .vmem S128x2048 .bf16) (harg6 : arg6.IsWhole)
    (arg7 : Memref sig .tc .vmem S128x2048 .bf16) (harg7 : arg7.IsWhole)
    (arg8 : Memref sig .tc .vmem S128x2048 .bf16) (harg8 : arg8.IsWhole)
    (arg9 : Memref sig .tc .vmem S128x1 .i32) (harg9 : arg9.IsWhole)
    (arg10 : Memref sig .tc .vmem S128x2048 .f32) (harg10 : arg10.IsWhole)
    (arg11 : Memref sig .tc .vmem S128x2048 .f32) (harg11 : arg11.IsWhole)
    (arg12 : Memref sig .tc .vmem S128x2048 .i32) (harg12 : arg12.IsWhole)
    (arg13 : Memref sig .tc .vmem S128x2048 .f32) (harg13 : arg13.IsWhole)
    (arg14 : Memref sig .tc .vmem S128x2048 .f32) (harg14 : arg14.IsWhole)
    (arg15 : Memref sig .tc .vmem S128x2048 .i32) (harg15 : arg15.IsWhole)
    (x0 x1 x2 x3 : Blk F) (g0 g1 g2 g3 : FVec F S128x2048 .bf16) (o : IVec S128x1 32) (S : Sc F)
    (hC : k1_cond3 i = 1#1)
    (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare g0
      ∗ owns (c : Thread nD τ) arg6 fullShare g1
      ∗ owns (c : Thread nD τ) arg7 fullShare g2
      ∗ owns (c : Thread nD τ) arg8 fullShare g3
      ∗ owns (c : Thread nD τ) arg9 fullShare o
      ∗ owns (c : Thread nD τ) arg10 fullShare S.s1
      ∗ owns (c : Thread nD τ) arg11 fullShare S.l1
      ∗ owns (c : Thread nD τ) arg12 fullShare S.c1
      ∗ owns (c : Thread nD τ) arg13 fullShare S.s2
      ∗ owns (c : Thread nD τ) arg14 fullShare S.l2
      ∗ owns (c : Thread nD τ) arg15 fullShare S.c2
      ∗ (iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare g0
      ∗ owns (c : Thread nD τ) arg6 fullShare g1
      ∗ owns (c : Thread nD τ) arg7 fullShare g2
      ∗ owns (c : Thread nD τ) arg8 fullShare g3
      ∗ owns (c : Thread nD τ) arg9 fullShare (emit (step i x0 x1 x2 x3 g0 g1 g2 g3 S))
      ∗ owns (c : Thread nD τ) arg10 fullShare (step i x0 x1 x2 x3 g0 g1 g2 g3 S).s1
      ∗ owns (c : Thread nD τ) arg11 fullShare (step i x0 x1 x2 x3 g0 g1 g2 g3 S).l1
      ∗ owns (c : Thread nD τ) arg12 fullShare (step i x0 x1 x2 x3 g0 g1 g2 g3 S).c1
      ∗ owns (c : Thread nD τ) arg13 fullShare (step i x0 x1 x2 x3 g0 g1 g2 g3 S).s2
      ∗ owns (c : Thread nD τ) arg14 fullShare (step i x0 x1 x2 x3 g0 g1 g2 g3 S).l2
      ∗ owns (c : Thread nD τ) arg15 fullShare (step i x0 x1 x2 x3 g0 g1 g2 g3 S).c2) -∗ K ⟨⟩))
      ⊢ wp frame (wpE (defs₀ (F := F)) Variants.none c none) E (cc1__score_body i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc1__score_body_eq_skeleton]; unfold cc1__score_body_skel
  simp only [k1_part1_eq_skeleton, k1_part11_eq_skeleton, k1_part12_eq_skeleton, k1_part13_eq_skeleton, k1_part14_eq_skeleton, k1_part15_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%f12, %e12, H12⟩, ⟨%f13, %e13, H13⟩, ⟨%f14, %e14, H14⟩, ⟨%f15, %e15, H15⟩, Hk⟩
  sl_exec (disch := sl_exact hC)
  sl_step
  iapply Hk
  isplitl [H1]
  · iexists _; isplitr
    swap; · iexact H1
    ipureintro
    exact e1
  isplitl [H2]
  · iexists _; isplitr
    swap; · iexact H2
    ipureintro
    exact e2
  isplitl [H3]
  · iexists _; isplitr
    swap; · iexact H3
    ipureintro
    exact e3
  isplitl [H4]
  · iexists _; isplitr
    swap; · iexact H4
    ipureintro
    exact e4
  isplitl [H5]
  · iexists _; isplitr
    swap; · iexact H5
    ipureintro
    exact e5
  isplitl [H6]
  · iexists _; isplitr
    swap; · iexact H6
    ipureintro
    exact e6
  isplitl [H7]
  · iexists _; isplitr
    swap; · iexact H7
    ipureintro
    exact e7
  isplitl [H8]
  · iexists _; isplitr
    swap; · iexact H8
    ipureintro
    exact e8
  isplitl [H9]
  · iexists _; isplitr
    swap; · iexact H9
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first, emit, rescore1, rescore2, keyWord]
  isplitl [H10]
  · iexists _; isplitr
    swap; · iexact H10
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  isplitl [H11]
  · iexists _; isplitr
    swap; · iexact H11
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  isplitl [H12]
  · iexists _; isplitr
    swap; · iexact H12
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  isplitl [H13]
  · iexists _; isplitr
    swap; · iexact H13
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  isplitl [H14]
  · iexists _; isplitr
    swap; · iexact H14
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]
  · iexists _; isplitr
    swap; · iexact H15
    ipureintro
    sl_open_run
    refine (View.read_writes_full _ _ _ _ _).trans ?_
    by_cases hA : isFirst i = 1#1 <;> by_cases hB : isLater i = 1#1 <;>
      simp only [isFirst, isLater] at hA hB <;>
      simp only [hA, hB, dif_pos, dif_neg, not_false_eq_true, rd, rw', rc, step, lead, isFirst, isLater, if_pos, if_neg, e1, e2, e3, e4, e5, e6, e7, e8, e9, e10, e11, e12, e13, e14, e15,
        ins3, ins2, ins1, ins0, first]

end Cert.KernelIdeal.Gen
end
-- ==== Proof.Ideal.Table.lean ====
module

public import proofs.«01_k».proof.Proof.Ideal.Step

/-! The body of the table call: what one grid point writes, and the call's proof data. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The third word of the key schedule, as the table call computes it. -/
def keyT : BitVec 32 := Scalar.xori (Scalar.xori 0#32 42#32) 466688986#32

/-- The first word of the table's hash after the first group of rounds. -/
def tblA (i : grid0.Coords) : IVec S128x2048 32 := k0_pay20 keyT (k0_pay9 i) (k0_pay10 i)

/-- The second word of the table's hash after the first group of rounds. -/
def tblB (i : grid0.Coords) : IVec S128x2048 32 := k0_pay21 keyT (k0_pay9 i) (k0_pay10 i)

/-- The block of noise that the table call writes at a grid point. -/
def tbl (i : grid0.Coords) : FVec F S128x2048 .bf16 :=
  k0_pay1 (F := F)
    (k0_pay45 keyT (k0_pay32 (tblA i) (tblB i)) (k0_pay33 (tblA i) (tblB i)) (k0_pay34 (tblA i) (tblB i)) 16#32)
    (k0_pay46 keyT (k0_pay32 (tblA i) (tblB i)) (k0_pay33 (tblA i) (tblB i)) (k0_pay34 (tblA i) (tblB i)) 16#32) 0#32

set_option maxHeartbeats 1000000 in
/-- The body of the table call leaves `tbl` in its window, whatever was there. -/
theorem table_body (c : Dev nD) (E : Set ℕ) (i : grid0.Coords) (arg1 : Memref sig .tc .vmem S128x2048 .bf16)
    (harg1 : arg1.IsWhole) (K : PUnit → sProp 𝕄) :
    iprop((∃ d, owns (c : Thread nD τ) arg1 fullShare d)
        ∗ (iprop(owns (c : Thread nD τ) arg1 fullShare (tbl (F := F) i)) -∗ K ⟨⟩))
      ⊢ wp frame (wpE (defs₀ (F := F)) Variants.none c none) E (cc0__table_body i arg1 harg1) K := by
  simp only [cc0__table_body_eq_skeleton]; unfold cc0__table_body_skel
  simp only [k0_part1_eq_skeleton, k0_part2_eq_skeleton, k0_part3_eq_skeleton, k0_part4_eq_skeleton]
  unfold owns
  iintro ⟨⟨%d0, %f0, -, H0⟩, Hk⟩
  sl_exec
  sl_step
  iapply Hk
  iexists _; isplitr
  swap; · iexact H0
  ipureintro
  exact (rw' _ _ _ _).trans rfl

variable (m : (ℓ : Loc nD τ sig) → Buf (Elt F) ℓ)

/-- The proof data of the table call on core `c`: the arrays as launched; after every point the window at `tbl`. -/
def dat0 (c : Dev nD) : Dat τ (Elt F) Unit ℕ (UR sig nD τ) ℕ cfg0 c where
  A w := m ((c : Thread nD τ).loc (Pipeline.arrRef spec0 w))
  after w t := match w with
    | ⟨0, _⟩ => tbl (F := F) (grid0.coords t)
  Φ _ := Pipeline.ΦA spec0 c
  q _ := fullShare
  owed _ := 0

/-- What the table call's body leaves at a point. -/
theorem dat0_after (c : Dev nD) (t : Fin cfg0.N) : (dat0 m c).after 0 t = tbl (F := F) (grid0.coords t) := by dsimp only [dat0]

/-- The body table's row of the table call at a point is the body. -/
theorem row0 (t : Fin cfg0.N) :
    defs₀ (F := F) .tc cfg0.body (cfg0.bodyArgs t (cfg0.slots t)) = bodyAt0 t := by
  unfold defs₀; rw [Defs.onTc_tc]

/-- The body at a point, between the proof data's invariants. -/
theorem sound0 (c : Dev nD) (t : Fin cfg0.N) :
    iprop((dat0 m c).Φ t.castSucc ∗ (dat0 m c).owesAt () t.castSucc
        ∗ (∃ d, owns (c : Thread nD τ) (st0_0 t) fullShare ((dat0 m c).before 0 t d)))
      ⊢ wp frame (wpE (defs₀ (F := F)) Variants.none c none) Set.univ (bodyAt0 t) (fun _ =>
        iprop((dat0 m c).Φ t.succ ∗ (dat0 m c).owesAt () t.succ
          ∗ owns (c : Thread nD τ) (st0_0 t) fullShare ((dat0 m c).after 0 t))) := by
  unfold bodyAt0
  rw [show (dat0 m c).Φ t.succ = (dat0 m c).Φ t.castSucc from rfl,
    show (dat0 m c).owesAt () t.succ = (dat0 m c).owesAt () t.castSucc from rfl, dat0_after]
  iintro ⟨HΦ, Ho, ⟨%d0, H0⟩⟩
  iapply (table_body c Set.univ (grid0.coords t) _ _ _)
  isplitl [H0]; · iexists _; iexact H0
  iintro ⟨H0⟩
  isplitl [HΦ]; · iexact HΦ
  isplitl [Ho]; · iexact Ho
  iexact H0

/-- The table call's body obligation. -/
theorem body0 (c : Dev nD) : BodyObligation (dat0 (F := F) m c) (defs₀ (F := F)) Variants.none () Set.univ := fun t => by
  rw [bigSep_W0, bigSep_W0, row0]
  exact triple_restated (sound0 m c t) rfl .rfl fun _ => .rfl

end Cert.KernelIdeal.Gen
end
-- ==== Proof.Ideal.Score.lean ====
module

public import proofs.«01_k».proof.Proof.Ideal.Step

/-! The scoring call: proof data that relate what a grid point finds to what it leaves, over any invariant of the six scratch
    buffers and any property of what is emitted. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The six scratch buffers of core `c` at `S`. -/
def scr (c : Dev nD) (S : Sc F) : sProp 𝕄 :=
  iprop(owns (c : Thread nD τ) (Memref.whole cc1_scratch0) fullShare S.s1
    ∗ owns (c : Thread nD τ) (Memref.whole cc1_scratch1) fullShare S.l1
    ∗ owns (c : Thread nD τ) (Memref.whole cc1_scratch2) fullShare S.c1
    ∗ owns (c : Thread nD τ) (Memref.whole cc1_scratch3) fullShare S.s2
    ∗ owns (c : Thread nD τ) (Memref.whole cc1_scratch4) fullShare S.l2
    ∗ owns (c : Thread nD τ) (Memref.whole cc1_scratch5) fullShare S.c2)

/-- The two staging buffers of the table call, at anything. -/
def stg (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f))

variable (V : (c : Dev nD) → (b : Ref sig .tc) → Buf (Elt F) ((c : Thread nD τ).loc b))
variable (Inv : Dev nD → ℕ → Sc F → Prop) (P : Dev nD → IVec S128x1 32 → Prop)

/-- What a fetch leaves in window `w`'s buffer at point `t`, if the buffer held `d`: the part of the block inside the array
    comes from the array, the rest is `d`. -/
def found (c : Dev nD) (w : Fin cfg1.W) (t : Fin cfg1.N) (d : (cfg1.win w).block.Idx → Elt F (cfg1.win w).elt) :
    (cfg1.win w).block.Idx → Elt F (cfg1.win w).elt :=
  (cfg1.win w).fill (cfg1.grid.coords t) d (((cfg1.win w).blk t).view.read (Elt F) (V c (Pipeline.arrRef spec1 w)))

/-- The proof data of the scoring call on core `c`: the scratch satisfies the invariant before every point, and the last point
    leaves in the output window something of which `P` holds. -/
def dat1 (c : Dev nD) : RDat τ (Elt F) Unit ℕ (UR sig nD τ) ℕ cfg1 c where
  A w := V c (Pipeline.arrRef spec1 w)
  after w t := match w with
    | ⟨0, _⟩ => fun _ _ => True
    | ⟨1, _⟩ => fun _ _ => True
    | ⟨2, _⟩ => fun _ _ => True
    | ⟨3, _⟩ => fun _ _ => True
    | ⟨4, _⟩ => fun _ _ => True
    | ⟨5, _⟩ => fun _ _ => True
    | ⟨6, _⟩ => fun _ _ => True
    | ⟨7, _⟩ => fun _ _ => True
    | ⟨8, _⟩ => fun _ X => t.val = 12 → P c X
  Φ k := iprop((∃ S, ⌜Inv c k.val S⌝ ∗ scr c S) ∗ stg c ∗ ∃ r, prngReg c r)
  q w := Pipeline.shareOf spec1 w
  owed _ := 0

/-- One point preserves the invariant, whatever the parts of the blocks outside the arrays hold. -/
def Steps : Prop := ∀ (c : Dev nD) (t : Fin cfg1.N) (S : Sc F) (d0 d1 d2 d3 : Blk F) (e0 e1 e2 e3 : FVec F S128x2048 .bf16),
  Inv c t.val S → Inv c (t.val + 1) (step (grid1.coords t)
    (found V c 0 t d0) (found V c 1 t d1) (found V c 2 t d2) (found V c 3 t d3)
    (found V c 4 t e0) (found V c 5 t e1) (found V c 6 t e2) (found V c 7 t e3) S)

/-- The last point is the one that emits. -/
theorem emits_iff (t : Fin cfg1.N) : k1_cond3 (grid1.coords t) = 1#1 ↔ t.val = 12 := by
  revert t; decide +kernel

/-- The body table's row of the scoring call at a point is the body. -/
theorem row1 (t : Fin cfg1.N) :
    defs₀ (F := F) .tc cfg1.body (cfg1.bodyArgs t (cfg1.slots t)) = bodyAt1 t := by
  unfold defs₀; rw [Defs.onTc_tc]

/-- The output window's clause of the proof data. -/
theorem after8 (c : Dev nD) (t : Fin cfg1.N) (Y X : IVec S128x1 32) :
    (dat1 V Inv P c).after 8 t Y X = (t.val = 12 → P c X) := by dsimp only [dat1]

set_option maxHeartbeats 1000000 in
/-- The body at a point, between the proof data's invariants. -/
theorem sound1 (hstep : Steps V Inv) (hemit : ∀ c S, Inv c 13 S → P c (emit S)) (c : Dev nD) (t : Fin cfg1.N)
    (Y : (w : Fin cfg1.W) → (cfg1.win w).block.Idx → Elt F (cfg1.win w).elt) (hY : ∀ w, (dat1 V Inv P c).Finds w t (Y w)) :
    iprop((dat1 V Inv P c).Φ t.castSucc ∗ (dat1 V Inv P c).owesAt () t.castSucc
        ∗ owns (c : Thread nD τ) (st1_0 t) fullShare (Y 0)
        ∗ owns (c : Thread nD τ) (st1_1 t) fullShare (Y 1)
        ∗ owns (c : Thread nD τ) (st1_2 t) fullShare (Y 2)
        ∗ owns (c : Thread nD τ) (st1_3 t) fullShare (Y 3)
        ∗ owns (c : Thread nD τ) (st1_4 t) fullShare (Y 4)
        ∗ owns (c : Thread nD τ) (st1_5 t) fullShare (Y 5)
        ∗ owns (c : Thread nD τ) (st1_6 t) fullShare (Y 6)
        ∗ owns (c : Thread nD τ) (st1_7 t) fullShare (Y 7)
        ∗ owns (c : Thread nD τ) (st1_8 t) fullShare (Y 8))
      ⊢ wp frame (wpE (defs₀ (F := F)) Variants.none c none) Set.univ (bodyAt1 t) (fun _ =>
        iprop((dat1 V Inv P c).Φ t.succ ∗ (dat1 V Inv P c).owesAt () t.succ
        ∗ (∃ X, ⌜(dat1 V Inv P c).after 0 t (Y 0) X⌝ ∗ owns (c : Thread nD τ) (st1_0 t) fullShare X)
        ∗ (∃ X, ⌜(dat1 V Inv P c).after 1 t (Y 1) X⌝ ∗ owns (c : Thread nD τ) (st1_1 t) fullShare X)
        ∗ (∃ X, ⌜(dat1 V Inv P c).after 2 t (Y 2) X⌝ ∗ owns (c : Thread nD τ) (st1_2 t) fullShare X)
        ∗ (∃ X, ⌜(dat1 V Inv P c).after 3 t (Y 3) X⌝ ∗ owns (c : Thread nD τ) (st1_3 t) fullShare X)
        ∗ (∃ X, ⌜(dat1 V Inv P c).after 4 t (Y 4) X⌝ ∗ owns (c : Thread nD τ) (st1_4 t) fullShare X)
        ∗ (∃ X, ⌜(dat1 V Inv P c).after 5 t (Y 5) X⌝ ∗ owns (c : Thread nD τ) (st1_5 t) fullShare X)
        ∗ (∃ X, ⌜(dat1 V Inv P c).after 6 t (Y 6) X⌝ ∗ owns (c : Thread nD τ) (st1_6 t) fullShare X)
        ∗ (∃ X, ⌜(dat1 V Inv P c).after 7 t (Y 7) X⌝ ∗ owns (c : Thread nD τ) (st1_7 t) fullShare X)
        ∗ (∃ X, ⌜(dat1 V Inv P c).after 8 t (Y 8) X⌝ ∗ owns (c : Thread nD τ) (st1_8 t) fullShare X))) := by
  obtain ⟨d0, e0⟩ : ∃ d, Y 0 = found V c 0 t d := ((dat1 V Inv P c).finds_of_fetch (fetch1_0 t) _).mp (hY 0)
  obtain ⟨d1, e1⟩ : ∃ d, Y 1 = found V c 1 t d := ((dat1 V Inv P c).finds_of_fetch (fetch1_1 t) _).mp (hY 1)
  obtain ⟨d2, e2⟩ : ∃ d, Y 2 = found V c 2 t d := ((dat1 V Inv P c).finds_of_fetch (fetch1_2 t) _).mp (hY 2)
  obtain ⟨d3, e3⟩ : ∃ d, Y 3 = found V c 3 t d := ((dat1 V Inv P c).finds_of_fetch (fetch1_3 t) _).mp (hY 3)
  obtain ⟨d4, e4⟩ : ∃ d, Y 4 = found V c 4 t d := ((dat1 V Inv P c).finds_of_fetch (fetch1_4 t) _).mp (hY 4)
  obtain ⟨d5, e5⟩ : ∃ d, Y 5 = found V c 5 t d := ((dat1 V Inv P c).finds_of_fetch (fetch1_5 t) _).mp (hY 5)
  obtain ⟨d6, e6⟩ : ∃ d, Y 6 = found V c 6 t d := ((dat1 V Inv P c).finds_of_fetch (fetch1_6 t) _).mp (hY 6)
  obtain ⟨d7, e7⟩ : ∃ d, Y 7 = found V c 7 t d := ((dat1 V Inv P c).finds_of_fetch (fetch1_7 t) _).mp (hY 7)
  unfold bodyAt1
  rw [show (dat1 V Inv P c).owesAt () t.succ = (dat1 V Inv P c).owesAt () t.castSucc from rfl,
    show (dat1 V Inv P c).Φ t.succ = iprop((∃ S, ⌜Inv c (t.val + 1) S⌝ ∗ scr c S) ∗ stg c ∗ ∃ r, prngReg c r) from rfl,
    show (dat1 V Inv P c).Φ t.castSucc = iprop((∃ S, ⌜Inv c t.val S⌝ ∗ scr c S) ∗ stg c ∗ ∃ r, prngReg c r) from rfl]
  unfold scr
  iintro ⟨⟨⟨%S, %hS, Ha, Hb, Hc, Hd, He, Hf⟩, Hr⟩, Ho, H0, H1, H2, H3, H4, H5, H6, H7, H8⟩
  have hS' := hstep c t S d0 d1 d2 d3 d4 d5 d6 d7 hS
  rw [← e0, ← e1, ← e2, ← e3, ← e4, ← e5, ← e6, ← e7] at hS'
  by_cases hC : k1_cond3 (grid1.coords t) = 1#1
  · iapply (score_last c Set.univ (grid1.coords t) _ _ _ _ _ _ _ _ _ _ _ _ _ _ _ _ _ _ _ _ _ _ _ _ _ _ _ _ _ _ (Y 0) (Y 1) (Y 2) (Y 3) (Y 4) (Y 5) (Y 6) (Y 7) (Y 8) S hC _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Ha]; · iexact Ha
    isplitl [Hb]; · iexact Hb
    isplitl [Hc]; · iexact Hc
    isplitl [Hd]; · iexact Hd
    isplitl [He]; · iexact He
    isplitl [Hf]; · iexact Hf
    iintro ⟨H0, H1, H2, H3, H4, H5, H6, H7, H8, Ha, Hb, Hc, Hd, He, Hf⟩
    isplitl [Ha Hb Hc Hd He Hf Hr]
    · isplitr [Hr]
      · iexists _; isplitr; · ipureintro; exact hS'
        isplitl [Ha]; · iexact Ha
        isplitl [Hb]; · iexact Hb
        isplitl [Hc]; · iexact Hc
        isplitl [Hd]; · iexact Hd
        isplitl [He]; · iexact He
        iexact Hf
      · iexact Hr
    isplitl [Ho]; · iexact Ho
    isplitl [H0]
    · iexists _; isplitr
      swap; · iexact H0
      ipureintro; exact trivial
    isplitl [H1]
    · iexists _; isplitr
      swap; · iexact H1
      ipureintro; exact trivial
    isplitl [H2]
    · iexists _; isplitr
      swap; · iexact H2
      ipureintro; exact trivial
    isplitl [H3]
    · iexists _; isplitr
      swap; · iexact H3
      ipureintro; exact trivial
    isplitl [H4]
    · iexists _; isplitr
      swap; · iexact H4
      ipureintro; exact trivial
    isplitl [H5]
    · iexists _; isplitr
      swap; · iexact H5
      ipureintro; exact trivial
    isplitl [H6]
    · iexists _; isplitr
      swap; · iexact H6
      ipureintro; exact trivial
    isplitl [H7]
    · iexists _; isplitr
      swap; · iexact H7
      ipureintro; exact trivial
    iexists _; isplitr
    swap; · iexact H8
    ipureintro
    rw [after8]
    intro h12
    exact hemit c _ (by rw [h12] at hS'; exact hS')
  · iapply (score_mid c Set.univ (grid1.coords t) _ _ _ _ _ _ _ _ _ _ _ _ _ _ _ _ _ _ _ _ _ _ _ _ _ _ _ _ _ _ (Y 0) (Y 1) (Y 2) (Y 3) (Y 4) (Y 5) (Y 6) (Y 7) (Y 8) S hC _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [Ha]; · iexact Ha
    isplitl [Hb]; · iexact Hb
    isplitl [Hc]; · iexact Hc
    isplitl [Hd]; · iexact Hd
    isplitl [He]; · iexact He
    isplitl [Hf]; · iexact Hf
    iintro ⟨H0, H1, H2, H3, H4, H5, H6, H7, H8, Ha, Hb, Hc, Hd, He, Hf⟩
    isplitl [Ha Hb Hc Hd He Hf Hr]
    · isplitr [Hr]
      · iexists _; isplitr; · ipureintro; exact hS'
        isplitl [Ha]; · iexact Ha
        isplitl [Hb]; · iexact Hb
        isplitl [Hc]; · iexact Hc
        isplitl [Hd]; · iexact Hd
        isplitl [He]; · iexact He
        iexact Hf
      · iexact Hr
    isplitl [Ho]; · iexact Ho
    isplitl [H0]
    · iexists _; isplitr
      swap; · iexact H0
      ipureintro; exact trivial
    isplitl [H1]
    · iexists _; isplitr
      swap; · iexact H1
      ipureintro; exact trivial
    isplitl [H2]
    · iexists _; isplitr
      swap; · iexact H2
      ipureintro; exact trivial
    isplitl [H3]
    · iexists _; isplitr
      swap; · iexact H3
      ipureintro; exact trivial
    isplitl [H4]
    · iexists _; isplitr
      swap; · iexact H4
      ipureintro; exact trivial
    isplitl [H5]
    · iexists _; isplitr
      swap; · iexact H5
      ipureintro; exact trivial
    isplitl [H6]
    · iexists _; isplitr
      swap; · iexact H6
      ipureintro; exact trivial
    isplitl [H7]
    · iexists _; isplitr
      swap; · iexact H7
      ipureintro; exact trivial
    iexists _; isplitr
    swap; · iexact H8
    ipureintro
    rw [after8]
    exact fun h12 => absurd ((emits_iff t).mpr h12) hC

/-- The scoring call's body obligation. -/
theorem body1 (hstep : Steps V Inv) (hemit : ∀ c S, Inv c 13 S → P c (emit S)) (c : Dev nD) :
    (dat1 V Inv P c).BodyObligation (defs₀ (F := F)) Variants.none () Set.univ := fun t Y hY => by
  rw [bigSep_W1, bigSep_W1, row1]
  exact triple_restated (sound1 V Inv P hstep hemit c t Y hY) rfl .rfl fun _ => .rfl

end Cert.KernelIdeal.Gen
end
-- ==== Proof.Ideal.Run.lean ====
module

public import proofs.«01_k».proof.Proof.Ideal.Table
public import proofs.«01_k».proof.Proof.Ideal.Score
public import proofs.«01_k».proof.Proof.Gen.KernelIdeal.Regions
public import Idealize.ShloMosaic.Lib.Pipeline.RegionsLoop
public import Idealize.ShloMosaic.Lib.Pipeline.RegionsOwned
public import Idealize.ShloMosaic.Lib.Pipeline.ArrRel

/-! The run of the whole program: the table call, the scoring call and the reshape, one after the other. `run` is what every
    execution ends in, over any invariant of the scoring call's scratch. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The table of noise that the table call leaves. -/
def tab (c : Dev nD) : Buf (Elt F) ((c : Thread nD τ).loc main_call0_v0) := (dat0 m c).arrAt 0 cfg0.N

/-- Core `c`'s buffers after the table call. -/
def W1 (c : Dev nD) : Valuation τ sig (Elt F) := Function.update (V0 m c) main_call0_v0 (tab m c)

/-- Core `c`'s buffers after the scoring call, if it emits `o`. -/
def W2 (c : Dev nD) (o : Buf (Elt F) ((c : Thread nD τ).loc main_call0_v1)) : Valuation τ sig (Elt F) := Function.update (W1 m c) main_call0_v1 o

/-- Core `c`'s buffers at the end, if the scoring call emits `o`. -/
def W3 (c : Dev nD) (o : Buf (Elt F) ((c : Thread nD τ).loc main_call0_v1)) : Valuation τ sig (Elt F) := StableHlo.after hostOps2 (W2 m c o)

/-- The table call changes nothing but the table. -/
theorem W1_of (c : Dev nD) (r : Ref sig .tc) (h : r ≠ main_call0_v0) : W1 m c r = V0 m c r := by
  simp only [W1, Function.update_of_ne (StableHlo.devRef_ne_of_ne h : (Proc.devRef .tc r : DevRef τ sig) ≠ Proc.devRef .tc main_call0_v0)]

/-- After the table call the table is what it left. -/
theorem W1_tab (c : Dev nD) : W1 m c main_call0_v0 = tab m c := by
  simp only [W1, Function.update_self]

/-- The scoring call changes nothing but its output. -/
theorem W2_of (c : Dev nD) (o : Buf (Elt F) ((c : Thread nD τ).loc main_call0_v1)) (r : Ref sig .tc) (h : r ≠ main_call0_v1) : W2 m c o r = W1 m c r := by
  simp only [W2, Function.update_of_ne (StableHlo.devRef_ne_of_ne h : (Proc.devRef .tc r : DevRef τ sig) ≠ Proc.devRef .tc main_call0_v1)]

/-- After the scoring call its output is what it emitted. -/
theorem W2_out (c : Dev nD) (o : Buf (Elt F) ((c : Thread nD τ).loc main_call0_v1)) : W2 m c o main_call0_v1 = o := by
  simp only [W2, Function.update_self]

/-- The reshape changes nothing but the result. -/
theorem W3_of (c : Dev nD) (o : Buf (Elt F) ((c : Thread nD τ).loc main_call0_v1)) (r : Ref sig .tc) (h : r ∉ hostOps2_W) : W3 m c o r = W2 m c o r :=
  StableHlo.after_of_writes_sub hostOps2 _ hostOps2_writes h

/-- The argument ends as launched. -/
theorem W3_arg (c : Dev nD) (o : Buf (Elt F) ((c : Thread nD τ).loc main_call0_v1)) : W3 m c o main_arg0 = m ((c : Thread nD τ).loc main_arg0) :=
  (W3_of m c o main_arg0 (by decide)).trans <| (W2_of m c o main_arg0 (by decide)).trans <| (W1_of m c main_arg0 (by decide)).trans rfl

variable (Inv : Dev nD → ℕ → Sc F → Prop) (P : Dev nD → IVec S128x1 32 → Prop)

/-- The buffers that the scoring call is entered with. -/
abbrev VS (c : Dev nD) (b : Ref sig .tc) : Buf (Elt F) ((c : Thread nD τ).loc b) := W1 m c b

/-- Named proof data with the scoring call's arrays and shares; only its arrays are read. -/
def dat1x (c : Dev nD) : Dat τ (Elt F) Unit ℕ (UR sig nD τ) ℕ cfg1 c where
  A w := VS m c (Pipeline.arrRef spec1 w)
  after _ _ := fun _ => Classical.arbitrary _
  Φ _ := BI.emp
  q w := Pipeline.shareOf spec1 w
  owed _ := 0

/-- The named proof data of both calls, from which their arrays are dealt and rejoined. -/
def pdats : (p : Fin 2) → (c : Dev nD) → Dat τ (Elt F) Unit ℕ (UR sig nD τ) ℕ (Pipeline.pin (pcfgs (F := F)) adm p) c
  | 0 => dat0 m
  | 1 => dat1x m

/-- The proof data of both calls. -/
def rdats : (p : Fin 2) → (c : Dev nD) → RDat τ (Elt F) Unit ℕ (UR sig nD τ) ℕ (Pipeline.pin (pcfgs (F := F)) adm p) c
  | 0 => fun c => (dat0 m c).toR
  | 1 => dat1 (VS m) Inv P

/-- No cell is waited on outside the calls. -/
abbrev Lv : GSem nD τ sig → Finset Unit := fun _ => ∅
/-- The levels of the cells. -/
abbrev lvl : GSem nD τ sig → Unit → ℕ := fun _ _ => 0

/-- What a core holds beside its buffers between two items: its generator register, and that it owes nothing. -/
abbrev Rst (c : Dev nD) : sProp 𝕄 := iprop((∃ r, prngReg c r) ∗ ∃ W, owes (c : Thread nD τ) (0 : CellTallies nD τ sig Unit) W)

/-- At the table call's exit its array is the table. -/
theorem hF0 (c : Dev nD) (w : Fin cfg0.W) : (dat0 m c).arrAt w cfg0.N = W1 m c (Pipeline.arrRef spec0 w) := by
  match w with
  | ⟨0, _⟩ => exact (W1_tab m c).symm

/-- Buffers that no window of the table call is on are as they were. -/
theorem hrest0 (c : Dev nD) : ∀ b, b ∉ Finset.univ.image (Pipeline.arrRef spec0) → W1 m c b = V0 m c b :=
  fun b hb => W1_of m c b fun e => hb (Finset.mem_image.mpr ⟨0, Finset.mem_univ _, e.symm⟩)

/-- Buffers that no window of the scoring call is on are as they were. -/
theorem hrest1 (c : Dev nD) (o : Buf (Elt F) ((c : Thread nD τ).loc main_call0_v1)) :
    ∀ b, b ∉ Finset.univ.image (Pipeline.arrRef spec1) → W2 m c o b = W1 m c b :=
  fun b hb => W2_of m c o b fun e => hb (Finset.mem_image.mpr ⟨8, Finset.mem_univ _, e.symm⟩)

/-- The scoring call's input arrays at its exit. -/
theorem in1 (c : Dev nD) (G : (w : Fin cfg1.W) → Buf (Elt F) ((cfg1.win w).arr.view.loc (c.tc : Thread nD τ)))
    (hG : ∀ w, (dat1 (VS m) Inv P c).ArrAt w cfg1.N (G w)) (w : Fin cfg1.W) (hw : (cfg1.win w).isOut = false) :
    G w = VS m c (Pipeline.arrRef spec1 w) := by
  have h := hG w
  rw [Pipeline.RDat.ArrAt_in _ w hw] at h
  exact h

/-- At the scoring call's exit its arrays are the inputs as they were and its output as emitted. -/
theorem hF1 (c : Dev nD) (G : (w : Fin cfg1.W) → Buf (Elt F) ((cfg1.win w).arr.view.loc (c.tc : Thread nD τ)))
    (hG : ∀ w, (dat1 (VS m) Inv P c).ArrAt w cfg1.N (G w)) (w : Fin cfg1.W) : G w = W2 m c (G 8) (Pipeline.arrRef spec1 w) := by
  match w with
  | ⟨0, _⟩ => exact (in1 m Inv P c G hG 0 (by decide)).trans (W2_of m c (G 8) main_arg0 (by decide)).symm
  | ⟨1, _⟩ => exact (in1 m Inv P c G hG 1 (by decide)).trans (W2_of m c (G 8) main_arg0 (by decide)).symm
  | ⟨2, _⟩ => exact (in1 m Inv P c G hG 2 (by decide)).trans (W2_of m c (G 8) main_arg0 (by decide)).symm
  | ⟨3, _⟩ => exact (in1 m Inv P c G hG 3 (by decide)).trans (W2_of m c (G 8) main_arg0 (by decide)).symm
  | ⟨4, _⟩ => exact (in1 m Inv P c G hG 4 (by decide)).trans (W2_of m c (G 8) main_call0_v0 (by decide)).symm
  | ⟨5, _⟩ => exact (in1 m Inv P c G hG 5 (by decide)).trans (W2_of m c (G 8) main_call0_v0 (by decide)).symm
  | ⟨6, _⟩ => exact (in1 m Inv P c G hG 6 (by decide)).trans (W2_of m c (G 8) main_call0_v0 (by decide)).symm
  | ⟨7, _⟩ => exact (in1 m Inv P c G hG 7 (by decide)).trans (W2_of m c (G 8) main_call0_v0 (by decide)).symm
  | ⟨8, _⟩ => exact (W2_out m c (G 8)).symm

/-- The output's one write-back is that of the last point. -/
theorem whole8 : (cfg1.win 8).WholeAt ⟨12, by decide⟩ := by decide +kernel

/-- What the scoring call's output array holds at its exit satisfies `P`. -/
theorem out1 (c : Dev nD) (G : (w : Fin cfg1.W) → Buf (Elt F) ((cfg1.win w).arr.view.loc (c.tc : Thread nD τ)))
    (hG : ∀ w, (dat1 (VS m) Inv P c).ArrAt w cfg1.N (G w)) : P c (G 8) := by
  obtain ⟨X, ⟨Y, -, hX⟩, hj⟩ := Pipeline.RDat.ArrAt.emb_eq_of_wholeAt (rd := dat1 (VS m) Inv P c) (hG 8) whole8
  have e : (G 8 : IVec S128x1 32) = X := funext fun j => hj j
  rw [e]
  rw [after8] at hX
  exact hX rfl

omit [FloatOps F] in
/-- Arrays each at something they may hold are arrays at contents that all may be held. -/
theorem arraysAt_some [∀ e, Nonempty (Elt F e)] {cfg : Cfg sig Λ₀} {c : Dev nD} (rd : RDat τ (Elt F) Unit ℕ (UR sig nD τ) ℕ cfg c) (n : ℕ) :
    (rd.arraysAt n : sProp 𝕄) ⊢ iprop(∃ G : (w : Fin cfg.W) → Buf (Elt F) ((cfg.win w).arr.view.loc (c.tc : Thread nD τ)),
      ⌜∀ w, rd.ArrAt w n (G w)⌝ ∗ rd.arrays G) := by
  unfold RDat.arraysAt RDat.arrays
  refine (BI.bigSep_exists_pi Finset.univ _).trans ?_
  iintro ⟨%G, H⟩
  ihave H' := (BI.bigSep_pure_sep Finset.univ (fun w => rd.ArrAt w n (G w)) _) $$ H
  icases H' with ⟨%hG, H⟩
  iexists G
  isplitr
  · ipureintro; exact fun w => hG w (Finset.mem_univ w)
  iexact H

set_option backward.isDefEq.respectTransparency.types false in
/-- The table call as an item of the program: from the buffers as launched to those with the table written. -/
def reg0 : Pipeline.RDat.RegionSeg (pcfgs (F := F)) adm (rdats m Inv P) () defs₀ Variants.none Lv lvl 0 where
  win := launch0.win.to₀
  block_pos := launch0.block_pos
  stage_whole := launch0.stage_whole
  K := PEmpty
  osem k := k.elim
  ho := Pipeline.OwnSemFacts.none _
  hbody c := (body0 m c).loose.toR
  hwaits := Pipeline.RDat.hwaits_of_owed_zero _ _ _ _ Lv lvl 0 fun _ _ => rfl
  pre c := iprop(StableHlo.held (c : Thread nD τ) (Pipeline.ucRefs τ sig) (V0 m c) ∗ Rst c)
  post c := iprop(StableHlo.held (c : Thread nD τ) (Pipeline.ucRefs τ sig) (W1 m c) ∗ Rst c)
  X c := iprop(∃ r, prngReg c r)
  Y c := iprop(∃ r, prngReg c r)
  Z c := Pipeline.unscopedRest (Ix := Unit) (Name := ℕ) (U := UR sig nD τ) (Lvl := ℕ) spec0 c (fun b => V0 m c b)
  hentry c := by
    rw [Pipeline.ownSems0_none]
    show _ ⊢ |={Set.univ}=> iprop((pdats m 0 c).arrays ((pdats m 0 c).arrAt · 0) ∗ Pipeline.prefHeld (pcfgs (F := F) 0).pre c (fun _ => fullShare) (adm (F := F) 0).1
        ∗ (dat0 m c).toR.owesAt () 0 ∗ _ ∗ _)
    have hsplit := Pipeline.arrays_of_unscopedBufs (p := 0) (pcfgs (F := F)) adm (pdats m) launch0.win launch0.arr_whole c
      ((pdats m 0 c).share_full fun _ => rfl) (fun b => V0 m c b) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    rw [show (rdats m Inv P 0 c).Φ 0 = Pipeline.ΦA spec0 c from rfl]; unfold Pipeline.ΦA
    iintro ⟨Hp, -, Hr⟩
    isplitl [Hr]; · iexact Hr
    iexact Hp
  hout c := by
    rw [Pipeline.ownSems0_none, show (rdats m Inv P 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (fun b => V0 m c b) (fun b => W1 m c b) ((pdats m 0 c).arrAt · cfg0.N) (hF0 m c) (hrest0 m c)
    rw [Pipeline.unscopedBufs_held] at hjoin
    show iprop((dat0 m c).toR.arraysAt cfg0.N ∗ (dat0 m c).toR.owesAt () (Fin.last _) ∗ _ ∗ _) ⊢ _
    iintro ⟨Ha, HO, HY, Hrest⟩
    ihave Ha := ((dat0 m c).toR_arraysAt_post cfg0.N) $$ Ha
    imodintro
    isplitl [Ha Hrest]
    · iapply hjoin
      isplitl [Ha]; · iexact Ha
      iexact Hrest
    isplitl [HY]; · iexact HY
    unfold Pipeline.RDat.owesAt Pipeline.owesWithin
    icases HO with ⟨%W, -, HO⟩; iexists W; iexact HO

/-- The scoring call's emitted words of which `P` holds. -/
abbrev Out (c : Dev nD) : Type := {o : Buf (Elt F) ((c : Thread nD τ).loc main_call0_v1) // P c o}

/-- What enters the scoring call's invariant: the buffers that no window stages and the generator register. -/
theorem enter1 (h0 : ∀ c S, Inv c 0 S) (c : Dev nD) :
    iprop((∃ r, prngReg c r) ∗ Pipeline.scopedRest (Ix := Unit) (Name := ℕ) (U := UR sig nD τ) (Lvl := ℕ) (Val := Elt F) spec1 c)
      ⊢ (dat1 (VS m) Inv P c).Φ 0 := by
  rw [show (dat1 (VS m) Inv P c).Φ 0 = iprop((∃ S, ⌜Inv c 0 S⌝ ∗ scr c S) ∗ stg c ∗ ∃ r, prngReg c r) from rfl, scopedRest1_eq]
  unfold scr stg
  iintro ⟨Hp, H0, H1, ⟨%f0, Ha⟩, ⟨%f1, Hb⟩, ⟨%f2, Hc⟩, ⟨%f3, Hd⟩, ⟨%f4, He⟩, ⟨%f5, Hf⟩⟩
  isplitl [Ha Hb Hc Hd He Hf]
  · iexists (⟨f0, f1, f2, f3, f4, f5⟩ : Sc F)
    isplitr; · ipureintro; exact h0 c _
    simp only [owns_whole]
    isplitl [Ha]; · iexact Ha
    isplitl [Hb]; · iexact Hb
    isplitl [Hc]; · iexact Hc
    isplitl [Hd]; · iexact Hd
    isplitl [He]; · iexact He
    iexact Hf
  isplitl [H0 H1]
  · isplitl [H0]; · iexact H0
    iexact H1
  iexact Hp

/-- What leaves the scoring call's invariant. -/
theorem leave1 (c : Dev nD) (k : Fin (cfg1.N + 1)) :
    (dat1 (VS m) Inv P c).Φ k ⊢
      iprop((∃ r, prngReg c r) ∗ Pipeline.scopedRest (Ix := Unit) (Name := ℕ) (U := UR sig nD τ) (Lvl := ℕ) (Val := Elt F) spec1 c) := by
  rw [show (dat1 (VS m) Inv P c).Φ k = iprop((∃ S, ⌜Inv c k.val S⌝ ∗ scr c S) ∗ stg c ∗ ∃ r, prngReg c r) from rfl, scopedRest1_eq]
  unfold scr stg
  simp only [owns_whole]
  iintro ⟨⟨%S, -, Ha, Hb, Hc, Hd, He, Hf⟩, ⟨H0, H1⟩, Hp⟩
  isplitl [Hp]; · iexact Hp
  isplitl [H0]; · iexact H0
  isplitl [H1]; · iexact H1
  isplitl [Ha]; · iexists _; iexact Ha
  isplitl [Hb]; · iexists _; iexact Hb
  isplitl [Hc]; · iexists _; iexact Hc
  isplitl [Hd]; · iexists _; iexact Hd
  isplitl [He]; · iexists _; iexact He
  iexists _; iexact Hf

set_option backward.isDefEq.respectTransparency.types false in
/-- The scoring call as an item of the program: from the buffers with the table to those with some output of which `P` holds. -/
def reg1 (h0 : ∀ c S, Inv c 0 S) (hstep : Steps (VS m) Inv) (hemit : ∀ c S, Inv c 13 S → P c (emit S)) :
    Pipeline.RDat.RegionSeg (pcfgs (F := F)) adm (rdats m Inv P) () defs₀ Variants.none Lv lvl 1 where
  win := launch₀1.win
  block_pos := launch₀1.block_pos
  stage_whole := launch₀1.stage_whole
  K := PEmpty
  osem k := k.elim
  ho := Pipeline.OwnSemFacts.none _
  hbody c := body1 (VS m) Inv P hstep hemit c
  hwaits := Pipeline.RDat.hwaits_of_owed_zero _ _ _ _ Lv lvl 1 fun _ _ => rfl
  pre c := iprop(StableHlo.held (c : Thread nD τ) (Pipeline.ucRefs τ sig) (W1 m c) ∗ Rst c)
  post c := iprop((∃ γ : Out P c, StableHlo.held (c : Thread nD τ) (Pipeline.ucRefs τ sig) (W2 m c γ.1)) ∗ Rst c)
  X c := iprop(∃ r, prngReg c r)
  Y c := iprop(∃ r, prngReg c r)
  Z c := Pipeline.unscopedRest (Ix := Unit) (Name := ℕ) (U := UR sig nD τ) (Lvl := ℕ) spec1 c (fun b => W1 m c b)
  hentry c := by
    rw [Pipeline.ownSems0_none]
    show _ ⊢ |={Set.univ}=> iprop((pdats m 1 c).arrays ((pdats m 1 c).arrAt · 0) ∗ Pipeline.prefHeld (pcfgs (F := F) 1).pre c (fun _ => fullShare) (adm (F := F) 1).1
        ∗ (dat1 (VS m) Inv P c).owesAt () 0 ∗ _ ∗ _)
    have hsplit := Pipeline.arrays_of_unscopedBufs_shared (p := 1) (pcfgs (F := F)) adm (pdats m) launch₀1.win launch₀1.sharedIn launch₀1.arr_whole c
      (fun _ _ => rfl) (fun b => W1 m c b) (fun _ => rfl)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.RDat.owesAt Pipeline.owesWithin
      icases HO with ⟨%W, HO⟩; iexists W; isplitr; · ipureintro; exact fun _ _ => Or.inl trivial
      iexact HO
    isplitl [Hp]; · iexact Hp
    iexact Hrest
  hin c := by
    show _ ⊢ (dat1 (VS m) Inv P c).Φ 0
    iintro ⟨Hp, -, Hr⟩
    iapply (enter1 m Inv P h0 c)
    isplitl [Hp]; · iexact Hp
    iexact Hr
  hout c := by
    rw [Pipeline.ownSems0_none]
    show (dat1 (VS m) Inv P c).Φ (Fin.last _) ⊢ _
    iintro H
    ihave H := (leave1 m Inv P c (Fin.last _)) $$ H
    icases H with ⟨Hp, Hr⟩
    isplitl [Hp]; · iexact Hp
    isplitr; · iempintro
    iexact Hr
  hexit c := by
    show iprop((dat1 (VS m) Inv P c).arraysAt cfg1.N ∗ (dat1 (VS m) Inv P c).owesAt () (Fin.last _) ∗ _ ∗ _) ⊢ _
    iintro ⟨Ha, HO, HY, Hrest⟩
    ihave Ha := (arraysAt_some (dat1 (VS m) Inv P c) cfg1.N) $$ Ha
    icases Ha with ⟨%G, %hG, Ha⟩
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (fun b => W1 m c b) (fun b => W2 m c (G 8) b) G (hF1 m Inv P c G hG) (hrest1 m c (G 8))
    rw [Pipeline.unscopedBufs_held] at hjoin
    imodintro
    isplitl [Ha Hrest]
    · ihave Ha := (Entails.of_eq (show ((dat1 (VS m) Inv P c).arrays G : sProp 𝕄) = (pdats m 1 c).arrays G from rfl)) $$ Ha
      iexists (⟨G 8, out1 m Inv P c G hG⟩ : Out P c)
      iapply hjoin
      isplitl [Ha]; · iexact Ha
      iexact Hrest
    isplitl [HY]; · iexact HY
    unfold Pipeline.RDat.owesAt Pipeline.owesWithin
    icases HO with ⟨%W, -, HO⟩; iexists W; iexact HO

/-- The reshape as an item of the program. -/
def hst : Pipeline.HostSeg (Ix := Unit) (Name := ℕ) (U := UR sig nD τ) (Lvl := ℕ) (pcfgs (F := F)) defs₀ Variants.none Lv lvl :=
  Pipeline.HostSeg.ofOpsEx (Γ := Out P) _ _ _ _ _ (Pipeline.ucRefs τ sig) hostOps2
    (fun op h => Pipeline.sub_ucRefs op ((List.forall_iff_forall_mem.mp hostOps2_sub) op h))
    (fun op h => (List.forall_iff_forall_mem.mp hostOps2_fresh) op h) (fun c γ => W2 m c γ.1) Rst

/-- The program's items. -/
abbrev items (h0 : ∀ c S, Inv c 0 S) (hstep : Steps (VS m) Inv) (hemit : ∀ c S, Inv c 13 S → P c (emit S)) :
    List (Pipeline.RDat.Seg (pcfgs (F := F)) adm (rdats m Inv P) () defs₀ Variants.none Lv lvl) :=
  [.region (reg0 m Inv P), .region (reg1 m Inv P h0 hstep hemit), .host (hst m P)]

set_option maxHeartbeats 1000000 in
set_option backward.isDefEq.respectTransparency.types false in
/-- Every execution terminates; the argument ends as launched, every counter at zero, and the result is the reshape of some
    output of which `P` holds. -/
theorem run (ρ : Dev nD → PrngReg) (h0 : ∀ c S, Inv c 0 S) (hstep : Steps (VS m) Inv) (hemit : ∀ c S, Inv c 13 S → P c (emit S)) :
    θ_run defs (onTc (τ := τ) (main (F := F))) ⟨m, fun _ => 0, ρ⟩ (fun r =>
      (∀ c : Dev nD, ∃ o : Out P c, ∀ b ∈ Pipeline.ucRefs τ sig, r.2.mem ((c : Thread nD τ).1, b) = W3 m c o.1 b)
      ∧ r.2.sem = fun _ => 0) := by
  refine Pipeline.RDat.θ_run_regions_kit_sems (pcfgs (F := F)) adm (rdats m Inv P) () cellOf_inj emb₁ defs₀ Variants.none Lv lvl m ρ main
    (items m Inv P h0 hstep hemit)
    (fun c Q => by
      rewrite [main_chain c, Pipeline.RDat.Seg.run_eq_chain,
        show (items m Inv P h0 hstep hemit).map Pipeline.RDat.Seg.prog = [
          Prog.lift (.customCall (Pipeline.entry 0) ()),
          Prog.lift (.customCall (Pipeline.entry 1) ()),
          StableHlo.seq hostOps2 ] from rfl]
      dsimp (config := { failIfUnchanged := false }) only
      exact .rfl)
    (by simp only [items, Pipeline.RDat.Seg.pipes, List.filterMap, Pipeline.RDat.Seg.pipe?]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rst c))
    (Tₙ := fun c => iprop(∃ γ : Out P c, StableHlo.held (c : Thread nD τ) (Pipeline.ucRefs τ sig) (W3 m c γ.1)))
    (hch := ⟨fun _ => .rfl, fun _ => .rfl, fun _ => .rfl, fun c => by
      dsimp only [Pipeline.RDat.Seg.post, hst, Pipeline.HostSeg.ofOpsEx]
      iintro ⟨Hh, -, HO⟩
      isplitl [Hh]; · iexact Hh
      iexact HO⟩)
    (hinit := by
      refine Pipeline.initEach Lv lvl fun c => ?_
      rw [show unscopedBufs c (fun b => m ((c.tc : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∃ o : Out P c, ∀ b ∈ Pipeline.ucRefs τ sig, s.mem ((c : Thread nD τ).1, b) = W3 m c o.1 b)
    (hfin := fun c s' => by
      iintro ⟨⟨%γ, Hh⟩, HSI⟩
      unfold StableHlo.held
      imodintro
      ihave Hr := (pointsTo_read_all (Pipeline.ucRefs τ sig) (fun b => ((c : Thread nD τ).1, b)) (W3 m c γ.1) s') $$ [Hh HSI]
      · isplitl [Hh] <;> iassumption
      icases Hr with ⟨%h, HSI⟩
      isplitr; · ipureintro; exact ⟨γ, h⟩
      iexact HSI)
    (hQ := fun s h hz => ⟨h, funext fun g => hz g (.inr (regions_no_unscoped g.2))⟩)

/-- A buffer that is not scoped is one that is read at the end. -/
theorem mem_uc (b : Ref sig .tc) (hb : b.isScoped = false) : (Proc.devRef .tc b : DevRef τ sig) ∈ Pipeline.ucRefs τ sig :=
  Finset.mem_filter.mpr ⟨StableHlo.devRef_mem_tcRefs b, by simpa using hb⟩

/-- Every execution terminates, with the argument as launched and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => by
      obtain ⟨o, ho⟩ := h.1 c
      exact (ho _ (mem_uc main_arg0 (by decide))).trans (W3_arg m c o.1), h.2⟩)
    (run m (fun _ _ _ => True) (fun _ _ => True) ρ (fun _ _ => trivial) (fun _ _ _ _ _ _ _ _ _ _ _ _ => trivial) (fun _ _ _ => trivial))

end Cert.KernelIdeal.Gen
end
-- ==== Proof.Words.lean ====
module

public import Idealize.ShloMosaic.PureOps

/-! The random words, one at a time: Threefry-2x32 on a pair of 32-bit words, and the word of one element of the array. -/

@[expose] public section

namespace Cert.Words

open Idealize.ShloMosaic

/-- A pair of 32-bit words, the high one first. -/
abbrev Pair := BitVec 32 × BitVec 32

/-- `x` rotated left by `r` places, `q` being `32 - r`. -/
def rot (r q : BitVec 32) (x : BitVec 32) : BitVec 32 := (x <<< r) ||| (x >>> q)

/-- One round: the low word added to the high one, then rotated and xored with the sum. -/
def mix (r q : BitVec 32) (p : Pair) : Pair := (p.1 + p.2, (p.1 + p.2) ^^^ rot r q p.2)

/-- The key added in: one word to each half. -/
def key (a b : BitVec 32) (p : Pair) : Pair := (p.1 + a, p.2 + b)

/-- The key and the group's number added in. -/
def inject (a b c : BitVec 32) (p : Pair) : Pair := (p.1 + a, p.2 + b + c)

/-- Adding a key word and a number is adding their sum. -/
theorem inject_eq (a b c : BitVec 32) (p : Pair) : inject a b c p = key a (b + c) p := by
  simp only [inject, key, BitVec.add_assoc]

/-- The first four rounds of a group of eight. -/
def four (p : Pair) : Pair := mix 6 26 (mix 26 6 (mix 15 17 (mix 13 19 p)))

/-- The last four rounds of a group of eight. -/
def four' (p : Pair) : Pair := mix 24 8 (mix 16 16 (mix 29 3 (mix 17 15 p)))

/-- All twenty rounds on a counter to which the key's second word has been added; `k` is the key's third word. -/
def cipherAt (k n : BitVec 32) : Pair :=
  inject k 0 5 (four (inject 42 k 4 (four' (inject 0 42 3 (four (inject k 0 2 (four' (inject 42 k 1 (four (0, n))))))))))

/-- All twenty rounds on the counter `n`, at the key `(0, 42)`. -/
def cipher (n : BitVec 32) : Pair := cipherAt 466689008 (n + 42)

/-- The random word of element number `n`. -/
def bits (n : BitVec 32) : BitVec 32 := (cipher n).1 ^^^ (cipher n).2

end Cert.Words
-- ==== Proof.Ref.Line.lean ====
module

public import proofs.«01_k».proof.Proof.Words
public import proofs.«01_k».proof.Proof.Gen.ReferenceIdeal
public import Idealize.ShloMosaic.Lib.StableHlo.Run

/-! The reference's operations as one line, and what the line leaves. The cipher's rounds are steps of one form, each over its own
    buffers: `Good` says what a step computes, and a chain of good steps computes the steps' composition. -/

@[expose] public section

set_option maxRecDepth 16384

noncomputable section

namespace Cert.ReferenceIdeal.Line

open Idealize.ShloMosaic Idealize.ShloMosaic.StableHlo Idealize.SL.Sem
open Cert.ReferenceIdeal Cert.ReferenceIdeal.Facts₀ Cert.Words

variable {F : FTy → Type} [FloatOps F]

/-- An array of words. -/
abbrev A32 : BufTy := ⟨S128x100000, .i32⟩
/-- One word. -/
abbrev A0 : BufTy := ⟨S_, .i32⟩
/-- An array of floats. -/
abbrev AF : BufTy := ⟨S128x100000, .f32⟩
/-- One float. -/
abbrev AF0 : BufTy := ⟨S_, .f32⟩

/-- The contents of a typed buffer. -/
def rd {T : BufTy} (t : TRef sig T) (V : Valuation τ sig (Elt F)) : T.Contents (Elt F) := t.ofBuf (V (Proc.devRef .tc t.ref))

/-- A stretch of the line that turns one pair of word arrays into another, element by element by `f`. -/
structure Step (F : FTy → Type) [FloatOps F] where
  ops : List (HloOp τ sig (Elt F))
  outs : List (Ref sig .tc)
  hi : TRef sig A32
  lo : TRef sig A32
  hi' : TRef sig A32
  lo' : TRef sig A32
  f : Pair → Pair

/-- Element `j` of a pair of word arrays. -/
def pair (h l : TRef sig A32) (V : Valuation τ sig (Elt F)) (j : S128x100000.Idx) : Pair := (rd h V j, rd l V j)

/-- The step computes its function at every element. -/
def Good (s : Step F) : Prop := ∀ V j, pair s.hi' s.lo' (after s.ops V) j = s.f (pair s.hi s.lo V j)

/-- A round, over its nine buffers. -/
def mixStep (r q : BitVec 32) (h l h' : TRef sig A32) (c : TRef sig A0) (b s : TRef sig A32) (c' : TRef sig A0)
    (b' t o l' : TRef sig A32) : Step F where
  ops := [TRef.binary h l h' addi, TRef.nullary c (constantI S_ 32 r), TRef.unary c b (broadcastInDim S128x100000 ![] bcast_S_S128x100000),
    TRef.binary l b s Host.shli, TRef.nullary c' (constantI S_ 32 q), TRef.unary c' b' (broadcastInDim S128x100000 ![] bcast_S_S128x100000),
    TRef.binary l b' t Host.shrui, TRef.binary s t o ori, TRef.binary h' o l' xori]
  outs := [h'.ref, c.ref, b.ref, s.ref, c'.ref, b'.ref, t.ref, o.ref, l'.ref]
  hi := h
  lo := l
  hi' := h'
  lo' := l'
  f := mix r q

/-- The key added in, over its six buffers. -/
def keyStep (k m : BitVec 32) (h l : TRef sig A32) (c : TRef sig A0) (b h' : TRef sig A32) (c' : TRef sig A0)
    (b' l' : TRef sig A32) : Step F where
  ops := [TRef.nullary c (constantI S_ 32 k), TRef.unary c b (broadcastInDim S128x100000 ![] bcast_S_S128x100000), TRef.binary h b h' addi,
    TRef.nullary c' (constantI S_ 32 m), TRef.unary c' b' (broadcastInDim S128x100000 ![] bcast_S_S128x100000), TRef.binary l b' l' addi]
  outs := [c.ref, b.ref, h'.ref, c'.ref, b'.ref, l'.ref]
  hi := h
  lo := l
  hi' := h'
  lo' := l'
  f := key k m

/-- An operation of two operands leaves its value in its result's buffer. -/
theorem rd_binary {A B C : BufTy} (a : TRef sig A) (b : TRef sig B) (y : TRef sig C) (f : A.Contents (Elt F) → B.Contents (Elt F) → C.Contents (Elt F))
    (V : Valuation τ sig (Elt F)) : rd y ((TRef.binary a b y f).result V) = f (rd a V) (rd b V) := by
  unfold rd; rw [binary_result, TRef.ofBuf_toBuf]

/-- An operation of one operand leaves its value in its result's buffer. -/
theorem rd_unary {A C : BufTy} (a : TRef sig A) (y : TRef sig C) (f : A.Contents (Elt F) → C.Contents (Elt F))
    (V : Valuation τ sig (Elt F)) : rd y ((TRef.unary a y f).result V) = f (rd a V) := by
  unfold rd; rw [unary_result, TRef.ofBuf_toBuf]

/-- A constant leaves its value in its result's buffer. -/
theorem rd_nullary {C : BufTy} (y : TRef sig C) (v : C.Contents (Elt F))
    (V : Valuation τ sig (Elt F)) : rd y ((TRef.nullary y v).result V) = v := by
  unfold rd; rw [nullary_result, TRef.ofBuf_toBuf]

/-- Every other buffer keeps its contents. -/
theorem rd_binary_ne {A B C D : BufTy} (a : TRef sig A) (b : TRef sig B) (y : TRef sig C) (f : A.Contents (Elt F) → B.Contents (Elt F) → C.Contents (Elt F))
    (z : TRef sig D) (h : z.ref ≠ y.ref) (V : Valuation τ sig (Elt F)) : rd z ((TRef.binary a b y f).result V) = rd z V := by
  unfold rd; rw [binary_result_ne _ _ _ _ _ _ _ V h]

/-- Every other buffer keeps its contents. -/
theorem rd_unary_ne {A C D : BufTy} (a : TRef sig A) (y : TRef sig C) (f : A.Contents (Elt F) → C.Contents (Elt F))
    (z : TRef sig D) (h : z.ref ≠ y.ref) (V : Valuation τ sig (Elt F)) : rd z ((TRef.unary a y f).result V) = rd z V := by
  unfold rd; rw [unary_result_ne _ _ _ _ _ V h]

/-- Every other buffer keeps its contents. -/
theorem rd_nullary_ne {C D : BufTy} (y : TRef sig C) (v : C.Contents (Elt F)) (z : TRef sig D) (h : z.ref ≠ y.ref)
    (V : Valuation τ sig (Elt F)) : rd z ((TRef.nullary y v).result V) = rd z V := by
  unfold rd; rw [nullary_result_ne _ _ _ V h]

/-- A round is good when its buffers are distinct and its two shifts are by fewer than 32 places. -/
theorem good_mix (r q : BitVec 32) (h l h' : TRef sig A32) (c : TRef sig A0) (b s : TRef sig A32) (c' : TRef sig A0)
    (b' t o l' : TRef sig A32) (hr : r.toNat < 32) (hq : q.toNat < 32)
    (hn : [h.ref, l.ref, h'.ref, c.ref, b.ref, s.ref, c'.ref, b'.ref, t.ref, o.ref, l'.ref].Nodup) :
    Good (mixStep (F := F) r q h l h' c b s c' b' t o l') := by
  intro V j
  simp only [List.nodup_cons, List.mem_cons, List.not_mem_nil, or_false, not_or, not_false_eq_true, and_true, List.nodup_nil, ← ne_eq] at hn
  obtain ⟨⟨h1, h2, h3, h4, h5, h6, h7, h8, h9, h10⟩, ⟨l2, l3, l4, l5, l6, l7, l8, l9, l10⟩, ⟨p3, p4, p5, p6, p7, p8, p9, p10⟩,
    ⟨c4, c5, c6, c7, c8, c9, c10⟩, ⟨b5, b6, b7, b8, b9, b10⟩, ⟨s6, s7, s8, s9, s10⟩, ⟨d7, d8, d9, d10⟩, ⟨e8, e9, e10⟩, ⟨t9, t10⟩, o10⟩ := hn
  simp only [pair, mixStep, after_cons, after_nil, rd_binary, rd_unary, rd_nullary, rd_binary_ne, rd_unary_ne, rd_nullary_ne, ne_eq,
    not_false_eq_true, *]
  simp only [mix, rot, addi, xori, ori, Host.shli, Host.shrui, IntOp.addi, IntOp.xori, IntOp.ori, IntOp.shli, IntOp.shrui,
    broadcastInDim, constantI, hr, hq, if_true]

/-- Adding the key is good when its buffers are distinct. -/
theorem good_key (k m : BitVec 32) (h l : TRef sig A32) (c : TRef sig A0) (b h' : TRef sig A32) (c' : TRef sig A0)
    (b' l' : TRef sig A32) (hn : [h.ref, l.ref, c.ref, b.ref, h'.ref, c'.ref, b'.ref, l'.ref].Nodup) :
    Good (keyStep (F := F) k m h l c b h' c' b' l') := by
  intro V j
  simp only [List.nodup_cons, List.mem_cons, List.not_mem_nil, or_false, not_or, not_false_eq_true, and_true, List.nodup_nil, ← ne_eq] at hn
  obtain ⟨⟨h1, h2, h3, h4, h5, h6, h7⟩, ⟨l2, l3, l4, l5, l6, l7⟩, ⟨p3, p4, p5, p6, p7⟩, ⟨c4, c5, c6, c7⟩, ⟨b5, b6, b7⟩, ⟨s6, s7⟩, d7⟩ := hn
  simp only [pair, keyStep, after_cons, after_nil, rd_binary, rd_unary, rd_nullary, rd_binary_ne, rd_unary_ne, rd_nullary_ne, ne_eq,
    not_false_eq_true, *]
  simp only [key, addi, IntOp.addi, broadcastInDim, constantI]

/-- Two lines one after the other. -/
theorem after_two (l l' : List (HloOp τ sig (Elt F))) (V : Valuation τ sig (Elt F)) : after (l ++ l') V = after l' (after l V) := by
  induction l generalizing V with
  | nil => rfl
  | cons op l ih => exact ih _

/-- Each step starts where the one before it ended. -/
def Linked (h l : TRef sig A32) : List (Step F) → TRef sig A32 → TRef sig A32 → Prop
  | [], h', l' => h = h' ∧ l = l'
  | s :: ss, h', l' => (s.hi = h ∧ s.lo = l) ∧ Linked s.hi' s.lo' ss h' l'

/-- A chain of good steps computes the steps' functions one after the other. -/
theorem chain (ss : List (Step F)) (hg : ss.Forall Good) : ∀ (h l h' l' : TRef sig A32), Linked h l ss h' l' → ∀ V j,
    pair h' l' (after (ss.flatMap Step.ops) V) j = ss.foldl (fun p s => s.f p) (pair h l V j) := by
  induction ss with
  | nil => rintro h l h' l' ⟨rfl, rfl⟩ V j; rfl
  | cons s ss ih =>
    rintro h l h' l' ⟨⟨rfl, rfl⟩, hl⟩ V j
    obtain ⟨g, gs⟩ := (List.forall_cons _ _ _).mp hg
    rw [List.flatMap_cons, after_two, ih gs _ _ _ _ hl, g V j]; rfl

/-- The operations before the cipher: the logarithm of the argument, and the counter of every element. -/
def pre : List (HloOp τ sig (Elt F)) :=
  [unary main_arg0 main_v0 (Host.log : AF.Contents (Elt F) → AF.Contents (Elt F)),
   nullary main_v1 (iotaInDim S128x100000 32 0),
   nullary main_c (constantI S_ 32 100000#32),
   unary main_c main_v2 (broadcastInDim S128x100000 ![] bcast_S_S128x100000 : A0.Contents (Elt F) → A32.Contents (Elt F)),
   binary main_v1 main_v2 main_v3 (muli : A32.Contents (Elt F) → A32.Contents (Elt F) → A32.Contents (Elt F)),
   nullary main_v4 (iotaInDim S128x100000 32 1),
   binary main_v3 main_v4 main_v5 (addi : A32.Contents (Elt F) → A32.Contents (Elt F) → A32.Contents (Elt F)),
   nullary main_c_0 (constantI S_ 32 0#32),
   unary main_c_0 main_v6 (broadcastInDim S128x100000 ![] bcast_S_S128x100000 : A0.Contents (Elt F) → A32.Contents (Elt F)),
   nullary main_c_1 (constantI S_ 32 0#32),
   unary main_c_1 main_v7 (broadcastInDim S128x100000 ![] bcast_S_S128x100000 : A0.Contents (Elt F) → A32.Contents (Elt F)),
   binary main_v6 main_v7 main_v8 (addi : A32.Contents (Elt F) → A32.Contents (Elt F) → A32.Contents (Elt F)),
   nullary main_c_2 (constantI S_ 32 42#32),
   unary main_c_2 main_v9 (broadcastInDim S128x100000 ![] bcast_S_S128x100000 : A0.Contents (Elt F) → A32.Contents (Elt F)),
   binary main_v5 main_v9 main_v10 (addi : A32.Contents (Elt F) → A32.Contents (Elt F) → A32.Contents (Elt F))]

/-- The cipher: twenty rounds, the key added in after every fourth. -/
def rounds : List (Step F) := [
  mixStep 13 19 (.of main_v8) (.of main_v10)
    (.of main_v11) (.of main_c_3) (.of main_v12) (.of main_v13)
    (.of main_c_4) (.of main_v14) (.of main_v15) (.of main_v16) (.of main_v17),
  mixStep 15 17 (.of main_v11) (.of main_v17)
    (.of main_v18) (.of main_c_5) (.of main_v19) (.of main_v20)
    (.of main_c_6) (.of main_v21) (.of main_v22) (.of main_v23) (.of main_v24),
  mixStep 26 6 (.of main_v18) (.of main_v24)
    (.of main_v25) (.of main_c_7) (.of main_v26) (.of main_v27)
    (.of main_c_8) (.of main_v28) (.of main_v29) (.of main_v30) (.of main_v31),
  mixStep 6 26 (.of main_v25) (.of main_v31)
    (.of main_v32) (.of main_c_9) (.of main_v33) (.of main_v34)
    (.of main_c_10) (.of main_v35) (.of main_v36) (.of main_v37) (.of main_v38),
  keyStep 42 466689009 (.of main_v32) (.of main_v38)
    (.of main_c_11) (.of main_v39) (.of main_v40) (.of main_c_12) (.of main_v41) (.of main_v42),
  mixStep 17 15 (.of main_v40) (.of main_v42)
    (.of main_v43) (.of main_c_13) (.of main_v44) (.of main_v45)
    (.of main_c_14) (.of main_v46) (.of main_v47) (.of main_v48) (.of main_v49),
  mixStep 29 3 (.of main_v43) (.of main_v49)
    (.of main_v50) (.of main_c_15) (.of main_v51) (.of main_v52)
    (.of main_c_16) (.of main_v53) (.of main_v54) (.of main_v55) (.of main_v56),
  mixStep 16 16 (.of main_v50) (.of main_v56)
    (.of main_v57) (.of main_c_17) (.of main_v58) (.of main_v59)
    (.of main_c_18) (.of main_v60) (.of main_v61) (.of main_v62) (.of main_v63),
  mixStep 24 8 (.of main_v57) (.of main_v63)
    (.of main_v64) (.of main_c_19) (.of main_v65) (.of main_v66)
    (.of main_c_20) (.of main_v67) (.of main_v68) (.of main_v69) (.of main_v70),
  keyStep 466689008 2 (.of main_v64) (.of main_v70)
    (.of main_c_21) (.of main_v71) (.of main_v72) (.of main_c_22) (.of main_v73) (.of main_v74),
  mixStep 13 19 (.of main_v72) (.of main_v74)
    (.of main_v75) (.of main_c_23) (.of main_v76) (.of main_v77)
    (.of main_c_24) (.of main_v78) (.of main_v79) (.of main_v80) (.of main_v81),
  mixStep 15 17 (.of main_v75) (.of main_v81)
    (.of main_v82) (.of main_c_25) (.of main_v83) (.of main_v84)
    (.of main_c_26) (.of main_v85) (.of main_v86) (.of main_v87) (.of main_v88),
  mixStep 26 6 (.of main_v82) (.of main_v88)
    (.of main_v89) (.of main_c_27) (.of main_v90) (.of main_v91)
    (.of main_c_28) (.of main_v92) (.of main_v93) (.of main_v94) (.of main_v95),
  mixStep 6 26 (.of main_v89) (.of main_v95)
    (.of main_v96) (.of main_c_29) (.of main_v97) (.of main_v98)
    (.of main_c_30) (.of main_v99) (.of main_v100) (.of main_v101) (.of main_v102),
  keyStep 0 45 (.of main_v96) (.of main_v102)
    (.of main_c_31) (.of main_v103) (.of main_v104) (.of main_c_32) (.of main_v105) (.of main_v106),
  mixStep 17 15 (.of main_v104) (.of main_v106)
    (.of main_v107) (.of main_c_33) (.of main_v108) (.of main_v109)
    (.of main_c_34) (.of main_v110) (.of main_v111) (.of main_v112) (.of main_v113),
  mixStep 29 3 (.of main_v107) (.of main_v113)
    (.of main_v114) (.of main_c_35) (.of main_v115) (.of main_v116)
    (.of main_c_36) (.of main_v117) (.of main_v118) (.of main_v119) (.of main_v120),
  mixStep 16 16 (.of main_v114) (.of main_v120)
    (.of main_v121) (.of main_c_37) (.of main_v122) (.of main_v123)
    (.of main_c_38) (.of main_v124) (.of main_v125) (.of main_v126) (.of main_v127),
  mixStep 24 8 (.of main_v121) (.of main_v127)
    (.of main_v128) (.of main_c_39) (.of main_v129) (.of main_v130)
    (.of main_c_40) (.of main_v131) (.of main_v132) (.of main_v133) (.of main_v134),
  keyStep 42 466689012 (.of main_v128) (.of main_v134)
    (.of main_c_41) (.of main_v135) (.of main_v136) (.of main_c_42) (.of main_v137) (.of main_v138),
  mixStep 13 19 (.of main_v136) (.of main_v138)
    (.of main_v139) (.of main_c_43) (.of main_v140) (.of main_v141)
    (.of main_c_44) (.of main_v142) (.of main_v143) (.of main_v144) (.of main_v145),
  mixStep 15 17 (.of main_v139) (.of main_v145)
    (.of main_v146) (.of main_c_45) (.of main_v147) (.of main_v148)
    (.of main_c_46) (.of main_v149) (.of main_v150) (.of main_v151) (.of main_v152),
  mixStep 26 6 (.of main_v146) (.of main_v152)
    (.of main_v153) (.of main_c_47) (.of main_v154) (.of main_v155)
    (.of main_c_48) (.of main_v156) (.of main_v157) (.of main_v158) (.of main_v159),
  mixStep 6 26 (.of main_v153) (.of main_v159)
    (.of main_v160) (.of main_c_49) (.of main_v161) (.of main_v162)
    (.of main_c_50) (.of main_v163) (.of main_v164) (.of main_v165) (.of main_v166),
  keyStep 466689008 5 (.of main_v160) (.of main_v166)
    (.of main_c_51) (.of main_v167) (.of main_v168) (.of main_c_52) (.of main_v169) (.of main_v170)]

/-- The operations after the cipher: the words made floats, the noise, the scores. -/
def post : List (HloOp τ sig (Elt F)) :=
  [binary main_v168 main_v170 main_v171 (xori : A32.Contents (Elt F) → A32.Contents (Elt F) → A32.Contents (Elt F)),
   nullary main_c_53 (constantI S_ 32 9#32),
   unary main_c_53 main_v172 (broadcastInDim S128x100000 ![] bcast_S_S128x100000 : A0.Contents (Elt F) → A32.Contents (Elt F)),
   binary main_v171 main_v172 main_v173 (Host.shrui : A32.Contents (Elt F) → A32.Contents (Elt F) → A32.Contents (Elt F)),
   nullary main_c_54 (constantI S_ 32 1065353216#32),
   unary main_c_54 main_v174 (broadcastInDim S128x100000 ![] bcast_S_S128x100000 : A0.Contents (Elt F) → A32.Contents (Elt F)),
   binary main_v173 main_v174 main_v175 (ori : A32.Contents (Elt F) → A32.Contents (Elt F) → A32.Contents (Elt F)),
   unary main_v175 main_v176 (bitcastToFloat .f32 : A32.Contents (Elt F) → AF.Contents (Elt F)),
   nullary main_cst (constant S_ .f32 0x3F800000#32),
   unary main_cst main_v177 (broadcastInDim S128x100000 ![] bcast_S_S128x100000 : AF0.Contents (Elt F) → AF.Contents (Elt F)),
   binary main_v176 main_v177 main_v178 (subf : AF.Contents (Elt F) → AF.Contents (Elt F) → AF.Contents (Elt F)),
   nullary main_cst_55 (constant S_ .f32 0x3F800000#32),
   unary main_cst_55 main_v179 (broadcastInDim S128x100000 ![] bcast_S_S128x100000 : AF0.Contents (Elt F) → AF.Contents (Elt F)),
   binary main_v178 main_v179 main_v180 (mulf : AF.Contents (Elt F) → AF.Contents (Elt F) → AF.Contents (Elt F)),
   nullary main_cst_56 (constant S_ .f32 0x00800000#32),
   unary main_cst_56 main_v181 (broadcastInDim S128x100000 ![] bcast_S_S128x100000 : AF0.Contents (Elt F) → AF.Contents (Elt F)),
   binary main_v180 main_v181 main_v182 (addf : AF.Contents (Elt F) → AF.Contents (Elt F) → AF.Contents (Elt F)),
   nullary main_cst_57 (constant S_ .f32 0x00800000#32),
   unary main_cst_57 main_v183 (broadcastInDim S128x100000 ![] bcast_S_S128x100000 : AF0.Contents (Elt F) → AF.Contents (Elt F)),
   binary main_v183 main_v182 main_v184 (maximumf : AF.Contents (Elt F) → AF.Contents (Elt F) → AF.Contents (Elt F)),
   unary main_v184 main_v185 (Host.log : AF.Contents (Elt F) → AF.Contents (Elt F)),
   unary main_v185 main_v186 (Host.negf : AF.Contents (Elt F) → AF.Contents (Elt F)),
   unary main_v186 main_v187 (Host.log : AF.Contents (Elt F) → AF.Contents (Elt F)),
   unary main_v187 main_v188 (Host.negf : AF.Contents (Elt F) → AF.Contents (Elt F)),
   binary main_v188 main_v0 main_v189 (addf : AF.Contents (Elt F) → AF.Contents (Elt F) → AF.Contents (Elt F))]

/-- The arg-max. -/
def argmax : List (HloOp τ sig (Elt F)) :=
  [nullary main_call0_v0 (iotaInDim S128x100000 32 1), nullary main_call0_cst (constant S_ .f32 0xFF800000#32),
   nullary main_call0_c (constantI S_ 32 0#32),
   quaternary main_v189 main_call0_v0 main_call0_cst main_call0_c main_call0_v1_0
     (fun x y u v j => (Host.argReduce reducer_argmax_f32_i32 x y u v reducesTo_S128x100000_S128_d1 h_S_ j).1),
   quaternary main_v189 main_call0_v0 main_call0_cst main_call0_c main_v190
     (fun x y u v j => (Host.argReduce reducer_argmax_f32_i32 x y u v reducesTo_S128x100000_S128_d1 h_S_ j).2)]

/-- The whole program. -/
def ops : List (HloOp τ sig (Elt F)) := pre ++ rounds.flatMap Step.ops ++ post ++ argmax

set_option maxHeartbeats 4000000 in
/-- Every round and every key step is good. -/
theorem rounds_good : (rounds (F := F)).Forall Good := by
  simp only [rounds, List.forall_cons]
  iterate 5
    iterate 4 refine ⟨good_mix _ _ _ _ _ _ _ _ _ _ _ _ _ (by decide) (by decide) (by decide), ?_⟩
    refine ⟨good_key _ _ _ _ _ _ _ _ _ _ (by decide), ?_⟩
  trivial

/-- The steps follow on from one another. -/
theorem rounds_linked : Linked (F := F) (.of main_v8) (.of main_v10) rounds (.of main_v168) (.of main_v170) := by
  simp only [rounds, Linked, mixStep, keyStep, and_self]

/-- What the rounds leave: the cipher's twenty rounds at every element. -/
theorem rounds_pair (V : Valuation τ sig (Elt F)) (j : S128x100000.Idx) (n : BitVec 32)
    (h : rd (.of main_v8 : TRef sig A32) V j = 0) (l : rd (.of main_v10 : TRef sig A32) V j = n + 42) :
    pair (.of main_v168) (.of main_v170) (after (rounds.flatMap Step.ops) V) j = cipher n := by
  rw [chain _ rounds_good _ _ _ _ rounds_linked V j, pair, h, l]
  simp only [cipher, cipherAt, inject_eq]
  rfl

/-- The program is its line of operations. -/
theorem main_eq (d : Dev nD) : main (F := F) d = seq ops := by
  have h : ops (F := F) = (ops.take 60 ++ ((ops.drop 60).take 60 ++ ((ops.drop 120).take 60 ++ ((ops.drop 180).take 60 ++ ops.drop 240)))) := rfl
  rw [h, seq_append, seq_append, seq_append, seq_append]
  have h0 : main_part0 (F := F) d = seq (ops.take 60) := rfl
  have h1 : main_part1 (F := F) d = seq ((ops.drop 60).take 60) := rfl
  have h2 : main_part2 (F := F) d = seq ((ops.drop 120).take 60) := rfl
  have h3 : main_part3 (F := F) d = seq ((ops.drop 180).take 60) := rfl
  have h4 : main_part4 (F := F) d = seq (ops.drop 240) := rfl
  rw [← h0, ← h1, ← h2, ← h3, ← h4]
  rfl

end Cert.ReferenceIdeal.Line
-- ==== Proof.Ref.Run.lean ====
module

public import proofs.«01_k».proof.Proof.Ref.Line
public import Idealize.ShloMosaic.Lib.Quiescent

/-! The run of the reference: its argument is left alone, and its result is the arg-max of the scores. -/

@[expose] public section

set_option maxRecDepth 16384

noncomputable section

namespace Cert.ReferenceIdeal.Line

open Idealize.ShloMosaic Idealize.ShloMosaic.StableHlo Idealize.SL.Sem
open Idealize.ShloMosaic.TcCoe
open Cert.ReferenceIdeal Cert.ReferenceIdeal.Facts₀ Cert.Words

variable {F : FTy → Type} [FloatOps F]

/-- The buffers the line writes, in order. -/
def written : List (Ref sig .tc) := (List.finRange 255).map fun i => ⟨.hbm, i.succ, rfl⟩

/-- The line writes each of them once. -/
theorem ops_writes : (ops (F := F)).map HloOp.writes = written.map fun r => {Proc.devRef (τ := τ) .tc r} := rfl

/-- No operation takes a buffer fresh. -/
theorem ops_fresh : (ops (F := F)).map HloOp.fresh = (ops (F := F)).map fun _ => (∅ : Finset (DevRef τ sig)) := rfl

/-- A stretch of the line leaves a buffer outside its results alone. -/
theorem after_keep (l : List (HloOp τ sig (Elt F))) (W : List (Ref sig .tc)) (h : l.map HloOp.writes = W.map fun r => {Proc.devRef (τ := τ) .tc r})
    (r : Ref sig .tc) (hr : r ∉ W) (V : Valuation τ sig (Elt F)) : after l V (Proc.devRef .tc r) = V (Proc.devRef .tc r) :=
  after_of_writes_sub l V (forall_writes_sub_of_map h) hr

/-- The argument is left alone. -/
theorem arg_keep (V : Valuation τ sig (Elt F)) : after ops V (Proc.devRef .tc main_arg0) = V (Proc.devRef .tc main_arg0) :=
  after_keep ops written ops_writes main_arg0 (by decide) V

/-- Every operation is over the core's own buffers. -/
theorem ops_sub : (ops (F := F)).Forall fun op => op.bufs ⊆ tcRefs τ sig := by
  simp only [ops, pre, rounds, post, argmax, mixStep, keyStep, List.flatMap_cons, List.flatMap_nil, List.cons_append, List.nil_append,
    List.forall_cons, List.Forall, nullary_bufs_sub, unary_bufs_sub, binary_bufs_sub, quaternary_bufs_sub, and_self]

/-- Every execution ends with the line's contents in every buffer. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq (by decide) (by decide) defs main (fun _ => ops) main_eq (fun _ => ops_sub) m ρ
    (fun _ => List.forall_iff_forall_mem.mp (forall_fresh_of_map ops_fresh))

/-- Every execution ends with the argument unchanged and every counter at zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD, r.2.mem ((c.tc : Thread nD τ).loc main_arg0) = m ((c.tc : Thread nD τ).loc main_arg0)) ∧ r.2.sem = fun _ => 0 :=
  (θ_run defs _ _).mono (fun r h => ⟨fun c => (h c main_arg0).trans (arg_keep _), sem_eq_zero_of_no_sems (by decide) _⟩) (run m ρ)

end Cert.ReferenceIdeal.Line
-- ==== Proof.Ideal.Hash.lean ====
module

public import proofs.«01_k».proof.Proof.Words
public import proofs.«01_k».proof.Proof.Ideal.Step
public import proofs.«01_k».proof.Proof.Ideal.Table
public import Idealize.ShloMosaic.PureOps.Ideal.Laws

/-! The kernel's random words, element by element: the three places that hash a counter (the table, and the two re-scorings) each
    compute the cipher of `Words`. The kernel's text is cut in the middle of rounds; each lemma here is one of its pieces. -/

@[expose] public section

noncomputable section

namespace Cert.KernelIdeal.Gen

open Idealize.ShloMosaic Cert.Words

variable {F : FTy → Type} [FloatOps F]

/-- The table's first piece: the first four rounds. -/
theorem tbl_one (i : grid0.Coords) (j : S128x2048.Idx) : (k0_pay9 i j, k0_pay10 i j) = four (0, k0_pay2 i j) := rfl

/-- The table's second piece: four rounds and the first sum of the next. -/
theorem tbl_two (k : BitVec 32) (a b : IVec S128x2048 32) (j : S128x2048.Idx) :
    (k0_pay20 k a b j, k0_pay20 k a b j ^^^ k0_pay21 k a b j) = mix 13 19 (inject k 0 2 (four' (inject 42 k 1 (a j, b j)))) := rfl

/-- The table's third piece: six rounds. -/
theorem tbl_three (a b : IVec S128x2048 32) (j : S128x2048.Idx) :
    (k0_pay33 a b j, k0_pay33 a b j ^^^ (k0_pay34 a b j ||| (k0_pay32 a b j >>> 16#32)))
      = mix 16 16 (mix 29 3 (mix 17 15 (inject 0 42 3 (mix 6 26 (mix 26 6 (mix 15 17 (a j, a j ^^^ b j))))))) := rfl

/-- The table's fourth piece: the rest of the round, and to the end of the last group. -/
theorem tbl_four (k : BitVec 32) (z a b : IVec S128x2048 32) (j : S128x2048.Idx) :
    (k0_pay46 k z a b 16#32 j, k0_pay45 k z a b 16#32 j)
      = ((four (inject 42 k 4 (mix 24 8 (a j, a j ^^^ (b j ||| (z j >>> 16#32)))))).1 + k,
        (four (inject 42 k 4 (mix 24 8 (a j, a j ^^^ (b j ||| (z j >>> 16#32)))))).2) := rfl

/-- The first re-scoring's first piece. -/
theorem one_one (c : IVec S128x2048 32) (j : S128x2048.Idx) :
    (k1_pay18 (F := F) c j, k1_pay19 (F := F) c j) = four (0, k1_pay11 (F := F) c j) := rfl

/-- The first re-scoring's second piece. -/
theorem one_two (k : BitVec 32) (a b : IVec S128x2048 32) (j : S128x2048.Idx) :
    (k1_pay29 k a b j, k1_pay29 k a b j ^^^ k1_pay30 k a b j) = mix 13 19 (inject k 0 2 (four' (inject 42 k 1 (a j, b j)))) := rfl

/-- The first re-scoring's third piece. -/
theorem one_three (a b : IVec S128x2048 32) (j : S128x2048.Idx) :
    (k1_pay42 a b j, k1_pay42 a b j ^^^ (k1_pay43 a b j ||| (k1_pay41 a b j >>> 16#32)))
      = mix 16 16 (mix 29 3 (mix 17 15 (inject 0 42 3 (mix 6 26 (mix 26 6 (mix 15 17 (a j, a j ^^^ b j))))))) := rfl

/-- The first re-scoring's fourth piece. -/
theorem one_four (k : BitVec 32) (z a b : IVec S128x2048 32) (j : S128x2048.Idx) :
    (k1_pay55 k z a b 16#32 j, k1_pay54 k z a b 16#32 j)
      = ((four (inject 42 k 4 (mix 24 8 (a j, a j ^^^ (b j ||| (z j >>> 16#32)))))).1 + k,
        (four (inject 42 k 4 (mix 24 8 (a j, a j ^^^ (b j ||| (z j >>> 16#32)))))).2) := rfl

/-- The second re-scoring's first piece. -/
theorem two_one (k : BitVec 32) (a b : IVec S128x2048 32) (j : S128x2048.Idx) :
    (k1_pay69 k a b j, k1_pay69 k a b j ^^^ (k1_pay70 k a b j ||| k1_pay71 k a b j))
      = mix 29 3 (mix 17 15 (inject 42 k 1 (four (a j, b j)))) := rfl

/-- The second re-scoring's second piece. -/
theorem two_two (k : BitVec 32) (z a b : IVec S128x2048 32) (j : S128x2048.Idx) :
    (k1_pay83 k z a b j, k1_pay83 k z a b j ^^^ (k1_pay84 k z a b j ||| (k1_pay82 k z a b j >>> 26#32)))
      = four (inject k 0 2 (mix 24 8 (mix 16 16 (z j, z j ^^^ (a j ||| b j))))) := rfl

/-- The second re-scoring's third piece. -/
theorem two_three (k : BitVec 32) (z a b : IVec S128x2048 32) (j : S128x2048.Idx) :
    (k1_pay94 k z a b 26#32 j, k1_pay94 k z a b 26#32 j ^^^ rot 13 19 (k1_pay93 k z a b 26#32 j))
      = mix 13 19 (inject 42 k 4 (four' (inject 0 42 3 (a j, a j ^^^ (b j ||| (z j >>> 26#32)))))) := rfl

/-- The four pieces of the table and of the first re-scoring, put together: the word they end in. -/
theorem word_one {n a b c d e f z hi lo : BitVec 32} (h1 : (a, b) = four (0, n + 42))
    (h2 : (c, c ^^^ d) = mix 13 19 (inject 466689008 0 2 (four' (inject 42 466689008 1 (a, b)))))
    (h3 : (e, e ^^^ (f ||| (z >>> 16#32)))
      = mix 16 16 (mix 29 3 (mix 17 15 (inject 0 42 3 (mix 6 26 (mix 26 6 (mix 15 17 (c, c ^^^ d))))))))
    (h4 : (hi, lo) = ((four (inject 42 466689008 4 (mix 24 8 (e, e ^^^ (f ||| (z >>> 16#32)))))).1 + 466689008,
        (four (inject 42 466689008 4 (mix 24 8 (e, e ^^^ (f ||| (z >>> 16#32)))))).2)) :
    hi ^^^ (lo + 0 + 5) = bits n := by
  rw [h3, h2, h1] at h4
  obtain ⟨rfl, rfl⟩ := Prod.mk.inj h4
  rfl

/-- A uniform variate of a random word. -/
def unif (w : BitVec 32) : F .f32 :=
  FloatOps.maximumf (FloatOps.ofBits .f32 0x00800000#32)
    (FloatOps.addf (FloatOps.subf (FloatOps.ofBits .f32 ((w >>> 9) ||| 1065353216#32)) (FloatOps.ofBits .f32 0x3F800000#32))
      (FloatOps.ofBits .f32 0x00800000#32))

/-- The Gumbel noise of a random word. -/
def gum (w : BitVec 32) : F .f32 :=
  FloatOps.subf (FloatOps.ofBits .f32 0x00000000#32)
    (FloatOps.log (FloatOps.subf (FloatOps.ofBits .f32 0x00000000#32) (FloatOps.log (unif w))))

/-- The Gumbel noise of element number `n`. -/
def noise (n : BitVec 32) : F .f32 := gum (bits n)

/-- The number, in its array, of an element of a block of the table. -/
def flat0 (i : grid0.Coords) (j : S128x2048.Idx) : BitVec 32 :=
  BitVec.ofNat 32 (j 0).val * 100000#32 + (BitVec.ofNat 32 (j 1).val + BitVec.ofNat 32 (i 0).val * 2048#32)

/-- The row counter, element by element. -/
theorem rows_apply (j : S128x2048.Idx) :
    iota .tc S128x2048 32 [0] iota_S128x2048_d0_w32 j = BitVec.ofNat 32 (j 0).val := by simp [iota]

/-- The lane counter, element by element. -/
theorem lanes_apply (j : S128x2048.Idx) :
    iota .tc S128x2048 32 [1] iota_S128x2048_d1_w32 j = BitVec.ofNat 32 (j 1).val := by simp [iota]

/-- The table's counters. -/
theorem pay2_apply (i : grid0.Coords) (j : S128x2048.Idx) : k0_pay2 i j = flat0 i j + 42#32 := by
  unfold flat0
  rw [← rows_apply, ← lanes_apply]
  rfl

/-- The counters of the first re-scoring. -/
theorem pay11_apply (c : IVec S128x2048 32) (j : S128x2048.Idx) :
    k1_pay11 (F := F) c j = (BitVec.ofNat 32 (j 0).val * 100000#32 + c j) + 42#32 := by
  rw [← rows_apply]
  rfl

/-- The counters of the second re-scoring. -/
theorem pay58_apply (c : IVec S128x2048 32) (j : S128x2048.Idx) :
    k1_pay58 (F := F) (iota .tc S128x2048 32 [0] iota_S128x2048_d0_w32) c j
      = (BitVec.ofNat 32 (j 0).val * 100000#32 + c j) + 42#32 := by
  rw [← rows_apply]
  rfl

/-- The table's last step: noise of the word. -/
theorem pay1_apply (a b : IVec S128x2048 32) (j : S128x2048.Idx) :
    k0_pay1 (F := F) a b 0#32 j = FloatOps.truncf .bf16 bitsLt_bf16_f32 (gum (b j ^^^ (a j + 0 + 5))) := rfl

/-- The first re-scoring's last step: the noise of the word on top of the logarithm, or minus infinity beyond the row. -/
theorem pay56_apply (c : IVec S128x2048 32) (l : Blk F) (a b : IVec S128x2048 32) (j : S128x2048.Idx) :
    k1_pay56 c l a b 0#32 j = Scalar.select (IntOp.cmpi .slt (c j) 100000#32)
      (FloatOps.addf (l j) (gum (b j ^^^ (a j + 0 + 5)))) (FloatOps.ofBits .f32 0xFF800000#32) := rfl

/-- The second re-scoring's last rounds and inner logarithm. -/
theorem pay96_apply (k : BitVec 32) (a b : IVec S128x2048 32) (j : S128x2048.Idx) :
    k1_pay96 (F := F) k a b k1_pay95 j = FloatOps.log (unif
      ((inject k 0 5 (mix 6 26 (mix 26 6 (mix 15 17 (b j, b j ^^^ rot 13 19 (a j)))))).1
        ^^^ (inject k 0 5 (mix 6 26 (mix 26 6 (mix 15 17 (b j, b j ^^^ rot 13 19 (a j)))))).2)) := rfl

/-- The table's block, element by element: the noise of the element's number. -/
theorem tbl_apply (i : grid0.Coords) (j : S128x2048.Idx) :
    tbl (F := F) i j = FloatOps.truncf .bf16 bitsLt_bf16_f32 (noise (flat0 i j)) := by
  have h := word_one (n := flat0 i j) ((tbl_one i j).trans (by rw [pay2_apply]; rfl)) (tbl_two keyT (k0_pay9 i) (k0_pay10 i) j)
    (tbl_three (k0_pay20 keyT (k0_pay9 i) (k0_pay10 i)) (k0_pay21 keyT (k0_pay9 i) (k0_pay10 i)) j)
    (tbl_four keyT _ _ _ j)
  unfold noise tbl
  rw [pay1_apply, ← h]
  rfl

/-- The reals have one format: narrowing changes nothing. -/
theorem truncf_ideal (x : Ideal .f32) : (FloatOps.truncf .bf16 bitsLt_bf16_f32 x : Ideal .bf16) = (x : EReal) := rfl

/-- The table's block over the reals. -/
theorem tbl_ideal (i : grid0.Coords) (j : S128x2048.Idx) :
    tbl (F := Ideal) i j = (noise (F := Ideal) (flat0 i j) : EReal) := (tbl_apply i j).trans (truncf_ideal _)

/-- The first re-scoring, lane by lane. -/
theorem rescore1_apply (c : IVec S128x2048 32) (l : Blk F) (j : S128x2048.Idx) :
    rescore1 c l j = Scalar.select (IntOp.cmpi .slt (c j) 100000#32)
      (FloatOps.addf (l j) (noise (BitVec.ofNat 32 (j 0).val * 100000#32 + c j))) (FloatOps.ofBits .f32 0xFF800000#32) := by
  have h := word_one (n := BitVec.ofNat 32 (j 0).val * 100000#32 + c j)
    ((one_one (F := F) c j).trans (by rw [pay11_apply]; rfl))
    (one_two keyWord (k1_pay18 (F := F) c) (k1_pay19 (F := F) c) j) (one_three _ _ j) (one_four keyWord _ _ _ j)
  unfold noise rescore1
  rw [pay56_apply, ← h]

/-- The second re-scoring's word. -/
theorem word_two {n a b c d e f z x hi lo : BitVec 32} (h0 : (a, b) = (0, n + 42))
    (h1 : (c, c ^^^ (d ||| e)) = mix 29 3 (mix 17 15 (inject 42 466689008 1 (four (a, b)))))
    (h2 : (f, f ^^^ (z ||| (x >>> 26#32)))
      = four (inject 466689008 0 2 (mix 24 8 (mix 16 16 (c, c ^^^ (d ||| e))))))
    (h3 : (hi, hi ^^^ rot 13 19 lo) = mix 13 19 (inject 42 466689008 4 (four' (inject 0 42 3 (f, f ^^^ (z ||| (x >>> 26#32))))))) :
    (inject 466689008 0 5 (mix 6 26 (mix 26 6 (mix 15 17 (hi, hi ^^^ rot 13 19 lo))))).1
      ^^^ (inject 466689008 0 5 (mix 6 26 (mix 26 6 (mix 15 17 (hi, hi ^^^ rot 13 19 lo))))).2 = bits n := by
  rw [h3, h2, h1, h0]
  rfl

/-- The second re-scoring's inner logarithm, lane by lane. -/
theorem rescore2_apply (c : IVec S128x2048 32) (j : S128x2048.Idx) :
    rescore2 (F := F) c j = FloatOps.log (unif (bits (BitVec.ofNat 32 (j 0).val * 100000#32 + c j))) := by
  have h := word_two (n := BitVec.ofNat 32 (j 0).val * 100000#32 + c j)
    (a := k1_pay57 j) (b := k1_pay58 (F := F) (iota .tc S128x2048 32 [0] iota_S128x2048_d0_w32) c j) (by rw [pay58_apply]; rfl)
    (two_one keyWord _ _ j) (two_two keyWord _ _ _ j) (two_three keyWord _ _ _ j)
  unfold rescore2
  rw [pay96_apply, ← h]
  rfl

attribute [irreducible] noise

end Cert.KernelIdeal.Gen
-- ==== Proof.Ideal.Content.lean ====
module

public import proofs.«01_k».proof.Proof.Ideal.Run
public import proofs.«01_k».proof.Proof.Ideal.Hash
public import Idealize.ShloMosaic.Lib.Pipeline.ValueKit
public import Idealize.ShloMosaic.Lib.ValueIdxCore

/-! What the scoring call finds: the table of noise that the table call left, and the blocks of the two arrays. -/

@[expose] public section

noncomputable section

namespace Cert.KernelIdeal.Gen

open Idealize.ShloMosaic Idealize.ShloMosaic.TcCoe Idealize.ShloMosaic.Tactic

variable (m : (ℓ : Loc nD τ sig) → Buf (Elt Ideal) ℓ)

/-- The number of an element in the array of 128 rows and 100000 columns. -/
def flat (p : S128x100000.Idx) : BitVec 32 := BitVec.ofNat 32 (p 0).val * 100000#32 + BitVec.ofNat 32 (p 1).val

/-- The one coordinate of a point of the table call. -/
theorem coord0 : ∀ t : Fin cfg0.N, ((grid0.coords t) 0).val = t.val := by decide +kernel

/-- The block that a point of the table call writes. -/
theorem index0 : ∀ t : Fin cfg0.N, (cfg0.win 0).index t (0 : Fin 2) = 0 ∧ (cfg0.win 0).index t (1 : Fin 2) = t.val := by decide +kernel

/-- The one coordinate of a point of the scoring call. -/
theorem coord1 : ∀ t : Fin cfg1.N, ((grid1.coords t) 0).val = t.val := by decide +kernel

/-- An element of a block of the table has the number of the element of the array that it lands on. -/
theorem flat0_eq (i : grid0.Coords) (j : S128x2048.Idx) (p : S128x100000.Idx) (h0 : (p 0).val = (j 0).val)
    (h1 : (p 1).val = (i 0).val * 2048 + (j 1).val) : flat0 i j = flat p := by
  unfold flat0 flat
  rw [h0, h1, Nat.add_comm ((i 0).val * 2048), BitVec.ofNat_add, BitVec.ofNat_mul]

/-- The table call leaves the noise of every element. -/
theorem tab_eq (c : Dev nD) : tab m c = fun p : S128x100000.Idx => noise (F := Ideal) (flat p) := by
  refine (dat0 m c).arrAt_eq_of_covers 0 _ (by decide +kernel) fun t hf y => ?_
  rw [dat0_after]
  refine (cast_eq rfl _).trans ?_
  rw [tbl_ideal]
  have e0 := (cfg0.win 0).rect_emb_val t y (0 : Fin 2)
  have e1 := (cfg0.win 0).rect_emb_val t y (1 : Fin 2)
  rw [(index0 t).1, Nat.zero_mul, Nat.zero_add] at e0
  rw [(index0 t).2] at e1
  rw [flat0_eq _ _ _ e0 (e1.trans (by rw [coord0 t]; rfl))]
  rfl

/-- A window of the scoring call lies, on its two axes, at blocks `i0` and `i1`, of which `x0` and `x1` are inside the array, when
    it is to show block number `n` of the row. -/
abbrev Placed (n i0 i1 x0 x1 : ℕ) : Prop :=
  i0 = 0 ∧ i1 = min n 48 ∧ x0 = 128 ∧ x1 = min 2048 (100000 - min n 48 * 2048)

/-- What of a block is inside the array is moved. -/
theorem fits {n i0 i1 x0 x1 : ℕ} (q : Placed n i0 i1 x0 x1) (j : S128x2048.Idx) (h : n * 2048 + (j 1).val < 100000) :
    (j 0).val < x0 ∧ (j 1).val < x1 := by
  obtain ⟨-, -, x0, x1⟩ := q
  have b2 : (j 0).val < 128 := (j 0).isLt
  have b3 : (j 1).val < 2048 := (j 1).isLt
  omega

/-- And moved from its place in the array. -/
theorem lands {n i0 i1 x0 x1 : ℕ} (q : Placed n i0 i1 x0 x1) {p0 p1 j0 j1 : ℕ} (hp : p1 < 100000) (h0 : p0 = j0)
    (h1 : p1 = n * 2048 + j1) : i0 * 128 + j0 = p0 ∧ i1 * 2048 + j1 = p1 := by
  obtain ⟨i0, i1, -, -⟩ := q
  omega

variable (V : (c : Dev nD) → (b : Ref sig .tc) → Buf (Elt Ideal) ((c : Thread nD τ).loc b))

/-- The first window on logits: where it lies. -/
theorem place0 : ∀ t : Fin cfg1.N, Placed (4 * t.val + 0) ((cfg1.win 0).index t (0 : Fin 2)) ((cfg1.win 0).index t (1 : Fin 2))
    ((cfg1.win 0).xsize (cfg1.grid.coords t) (0 : Fin 2)) ((cfg1.win 0).xsize (cfg1.grid.coords t) (1 : Fin 2)) := by decide +kernel

/-- The first window on logits: what it shows. -/
theorem found0 (c : Dev nD) (t : Fin cfg1.N) (d) (j : S128x2048.Idx) (p : S128x100000.Idx) (h0 : (p 0).val = (j 0).val)
    (h1 : (p 1).val = (4 * t.val + 0) * 2048 + (j 1).val) : found V c 0 t d j = V c main_arg0 p := by
  have hp : (p 1).val < 100000 := (p 1).isLt
  have hl := lands (place0 t) hp h0 h1
  unfold found Pipeline.Window.fill
  rw [dif_pos (((cfg1.win 0).moved_iff _ j).mpr (Fin.forall_fin_two.mpr (fits (place0 t) j (h1 ▸ hp))))]
  exact congrArg (V c main_arg0) (funext (Fin.forall_fin_two.mpr
    ⟨Fin.ext (((cfg1.win 0).rect_emb_val t _ (0 : Fin 2)).trans hl.1), Fin.ext (((cfg1.win 0).rect_emb_val t _ (1 : Fin 2)).trans hl.2)⟩))

/-- The second window on logits: where it lies. -/
theorem place1 : ∀ t : Fin cfg1.N, Placed (4 * t.val + 1) ((cfg1.win 1).index t (0 : Fin 2)) ((cfg1.win 1).index t (1 : Fin 2))
    ((cfg1.win 1).xsize (cfg1.grid.coords t) (0 : Fin 2)) ((cfg1.win 1).xsize (cfg1.grid.coords t) (1 : Fin 2)) := by decide +kernel

/-- The second window on logits: what it shows. -/
theorem found1 (c : Dev nD) (t : Fin cfg1.N) (d) (j : S128x2048.Idx) (p : S128x100000.Idx) (h0 : (p 0).val = (j 0).val)
    (h1 : (p 1).val = (4 * t.val + 1) * 2048 + (j 1).val) : found V c 1 t d j = V c main_arg0 p := by
  have hp : (p 1).val < 100000 := (p 1).isLt
  have hl := lands (place1 t) hp h0 h1
  unfold found Pipeline.Window.fill
  rw [dif_pos (((cfg1.win 1).moved_iff _ j).mpr (Fin.forall_fin_two.mpr (fits (place1 t) j (h1 ▸ hp))))]
  exact congrArg (V c main_arg0) (funext (Fin.forall_fin_two.mpr
    ⟨Fin.ext (((cfg1.win 1).rect_emb_val t _ (0 : Fin 2)).trans hl.1), Fin.ext (((cfg1.win 1).rect_emb_val t _ (1 : Fin 2)).trans hl.2)⟩))

/-- The third window on logits: where it lies. -/
theorem place2 : ∀ t : Fin cfg1.N, Placed (4 * t.val + 2) ((cfg1.win 2).index t (0 : Fin 2)) ((cfg1.win 2).index t (1 : Fin 2))
    ((cfg1.win 2).xsize (cfg1.grid.coords t) (0 : Fin 2)) ((cfg1.win 2).xsize (cfg1.grid.coords t) (1 : Fin 2)) := by decide +kernel

/-- The third window on logits: what it shows. -/
theorem found2 (c : Dev nD) (t : Fin cfg1.N) (d) (j : S128x2048.Idx) (p : S128x100000.Idx) (h0 : (p 0).val = (j 0).val)
    (h1 : (p 1).val = (4 * t.val + 2) * 2048 + (j 1).val) : found V c 2 t d j = V c main_arg0 p := by
  have hp : (p 1).val < 100000 := (p 1).isLt
  have hl := lands (place2 t) hp h0 h1
  unfold found Pipeline.Window.fill
  rw [dif_pos (((cfg1.win 2).moved_iff _ j).mpr (Fin.forall_fin_two.mpr (fits (place2 t) j (h1 ▸ hp))))]
  exact congrArg (V c main_arg0) (funext (Fin.forall_fin_two.mpr
    ⟨Fin.ext (((cfg1.win 2).rect_emb_val t _ (0 : Fin 2)).trans hl.1), Fin.ext (((cfg1.win 2).rect_emb_val t _ (1 : Fin 2)).trans hl.2)⟩))

/-- The fourth window on logits: where it lies. -/
theorem place3 : ∀ t : Fin cfg1.N, Placed (4 * t.val + 3) ((cfg1.win 3).index t (0 : Fin 2)) ((cfg1.win 3).index t (1 : Fin 2))
    ((cfg1.win 3).xsize (cfg1.grid.coords t) (0 : Fin 2)) ((cfg1.win 3).xsize (cfg1.grid.coords t) (1 : Fin 2)) := by decide +kernel

/-- The fourth window on logits: what it shows. -/
theorem found3 (c : Dev nD) (t : Fin cfg1.N) (d) (j : S128x2048.Idx) (p : S128x100000.Idx) (h0 : (p 0).val = (j 0).val)
    (h1 : (p 1).val = (4 * t.val + 3) * 2048 + (j 1).val) : found V c 3 t d j = V c main_arg0 p := by
  have hp : (p 1).val < 100000 := (p 1).isLt
  have hl := lands (place3 t) hp h0 h1
  unfold found Pipeline.Window.fill
  rw [dif_pos (((cfg1.win 3).moved_iff _ j).mpr (Fin.forall_fin_two.mpr (fits (place3 t) j (h1 ▸ hp))))]
  exact congrArg (V c main_arg0) (funext (Fin.forall_fin_two.mpr
    ⟨Fin.ext (((cfg1.win 3).rect_emb_val t _ (0 : Fin 2)).trans hl.1), Fin.ext (((cfg1.win 3).rect_emb_val t _ (1 : Fin 2)).trans hl.2)⟩))

/-- The first window on the table: where it lies. -/
theorem place4 : ∀ t : Fin cfg1.N, Placed (4 * t.val + 0) ((cfg1.win 4).index t (0 : Fin 2)) ((cfg1.win 4).index t (1 : Fin 2))
    ((cfg1.win 4).xsize (cfg1.grid.coords t) (0 : Fin 2)) ((cfg1.win 4).xsize (cfg1.grid.coords t) (1 : Fin 2)) := by decide +kernel

/-- The first window on the table: what it shows. -/
theorem found4 (c : Dev nD) (t : Fin cfg1.N) (d) (j : S128x2048.Idx) (p : S128x100000.Idx) (h0 : (p 0).val = (j 0).val)
    (h1 : (p 1).val = (4 * t.val + 0) * 2048 + (j 1).val) : found V c 4 t d j = V c main_call0_v0 p := by
  have hp : (p 1).val < 100000 := (p 1).isLt
  have hl := lands (place4 t) hp h0 h1
  unfold found Pipeline.Window.fill
  rw [dif_pos (((cfg1.win 4).moved_iff _ j).mpr (Fin.forall_fin_two.mpr (fits (place4 t) j (h1 ▸ hp))))]
  exact congrArg (V c main_call0_v0) (funext (Fin.forall_fin_two.mpr
    ⟨Fin.ext (((cfg1.win 4).rect_emb_val t _ (0 : Fin 2)).trans hl.1), Fin.ext (((cfg1.win 4).rect_emb_val t _ (1 : Fin 2)).trans hl.2)⟩))

/-- The second window on the table: where it lies. -/
theorem place5 : ∀ t : Fin cfg1.N, Placed (4 * t.val + 1) ((cfg1.win 5).index t (0 : Fin 2)) ((cfg1.win 5).index t (1 : Fin 2))
    ((cfg1.win 5).xsize (cfg1.grid.coords t) (0 : Fin 2)) ((cfg1.win 5).xsize (cfg1.grid.coords t) (1 : Fin 2)) := by decide +kernel

/-- The second window on the table: what it shows. -/
theorem found5 (c : Dev nD) (t : Fin cfg1.N) (d) (j : S128x2048.Idx) (p : S128x100000.Idx) (h0 : (p 0).val = (j 0).val)
    (h1 : (p 1).val = (4 * t.val + 1) * 2048 + (j 1).val) : found V c 5 t d j = V c main_call0_v0 p := by
  have hp : (p 1).val < 100000 := (p 1).isLt
  have hl := lands (place5 t) hp h0 h1
  unfold found Pipeline.Window.fill
  rw [dif_pos (((cfg1.win 5).moved_iff _ j).mpr (Fin.forall_fin_two.mpr (fits (place5 t) j (h1 ▸ hp))))]
  exact congrArg (V c main_call0_v0) (funext (Fin.forall_fin_two.mpr
    ⟨Fin.ext (((cfg1.win 5).rect_emb_val t _ (0 : Fin 2)).trans hl.1), Fin.ext (((cfg1.win 5).rect_emb_val t _ (1 : Fin 2)).trans hl.2)⟩))

/-- The third window on the table: where it lies. -/
theorem place6 : ∀ t : Fin cfg1.N, Placed (4 * t.val + 2) ((cfg1.win 6).index t (0 : Fin 2)) ((cfg1.win 6).index t (1 : Fin 2))
    ((cfg1.win 6).xsize (cfg1.grid.coords t) (0 : Fin 2)) ((cfg1.win 6).xsize (cfg1.grid.coords t) (1 : Fin 2)) := by decide +kernel

/-- The third window on the table: what it shows. -/
theorem found6 (c : Dev nD) (t : Fin cfg1.N) (d) (j : S128x2048.Idx) (p : S128x100000.Idx) (h0 : (p 0).val = (j 0).val)
    (h1 : (p 1).val = (4 * t.val + 2) * 2048 + (j 1).val) : found V c 6 t d j = V c main_call0_v0 p := by
  have hp : (p 1).val < 100000 := (p 1).isLt
  have hl := lands (place6 t) hp h0 h1
  unfold found Pipeline.Window.fill
  rw [dif_pos (((cfg1.win 6).moved_iff _ j).mpr (Fin.forall_fin_two.mpr (fits (place6 t) j (h1 ▸ hp))))]
  exact congrArg (V c main_call0_v0) (funext (Fin.forall_fin_two.mpr
    ⟨Fin.ext (((cfg1.win 6).rect_emb_val t _ (0 : Fin 2)).trans hl.1), Fin.ext (((cfg1.win 6).rect_emb_val t _ (1 : Fin 2)).trans hl.2)⟩))

/-- The fourth window on the table: where it lies. -/
theorem place7 : ∀ t : Fin cfg1.N, Placed (4 * t.val + 3) ((cfg1.win 7).index t (0 : Fin 2)) ((cfg1.win 7).index t (1 : Fin 2))
    ((cfg1.win 7).xsize (cfg1.grid.coords t) (0 : Fin 2)) ((cfg1.win 7).xsize (cfg1.grid.coords t) (1 : Fin 2)) := by decide +kernel

/-- The fourth window on the table: what it shows. -/
theorem found7 (c : Dev nD) (t : Fin cfg1.N) (d) (j : S128x2048.Idx) (p : S128x100000.Idx) (h0 : (p 0).val = (j 0).val)
    (h1 : (p 1).val = (4 * t.val + 3) * 2048 + (j 1).val) : found V c 7 t d j = V c main_call0_v0 p := by
  have hp : (p 1).val < 100000 := (p 1).isLt
  have hl := lands (place7 t) hp h0 h1
  unfold found Pipeline.Window.fill
  rw [dif_pos (((cfg1.win 7).moved_iff _ j).mpr (Fin.forall_fin_two.mpr (fits (place7 t) j (h1 ▸ hp))))]
  exact congrArg (V c main_call0_v0) (funext (Fin.forall_fin_two.mpr
    ⟨Fin.ext (((cfg1.win 7).rect_emb_val t _ (0 : Fin 2)).trans hl.1), Fin.ext (((cfg1.win 7).rect_emb_val t _ (1 : Fin 2)).trans hl.2)⟩))

end Cert.KernelIdeal.Gen
-- ==== Proof.Ideal.Lanes.lean ====
module

public import proofs.«01_k».proof.Proof.Ideal.Hash
public import Idealize.ShloMosaic.Lib.Pipeline.Value

/-! The best two of every lane: what entering one block does to one lane, and the invariant that it keeps. -/

@[expose] public section

noncomputable section

namespace Cert.KernelIdeal.Gen

open Idealize.ShloMosaic Idealize.ShloMosaic.TcCoe

section generic

variable {F : FTy → Type} [FloatOps F]

/-- The scores of a block, minus infinity beyond the row. -/
def masked (col : IVec S128x2048 32) (x : Blk F) (g : FVec F S128x2048 .bf16) : Blk F :=
  select (cmpi .slt col (broadcast S128x2048 100000#32)) (addf (log x) (extf .f32 g bitsLt_bf16_f32))
    (broadcast S128x2048 (Scalar.ofBits .f32 0xFF800000#32))

/-- A block with columns `col`, logarithms `l` and scores `s`, entered into the running best two. -/
def insert (col : IVec S128x2048 32) (l s : Blk F) (S : Sc F) : Sc F :=
  ⟨select (cmpf .ogt s S.s1) s S.s1, select (cmpf .ogt s S.s1) l S.l1, select (cmpf .ogt s S.s1) col S.c1,
    select (cmpf .ogt s S.s1) S.s1
      (select (andi (xori (cmpf .ogt s S.s1) (constantI S128x2048 1 1#1)) (cmpf .ogt s S.s2)) s S.s2),
    select (cmpf .ogt s S.s1) S.l1
      (select (andi (xori (cmpf .ogt s S.s1) (constantI S128x2048 1 1#1)) (cmpf .ogt s S.s2)) l S.l2),
    select (cmpf .ogt s S.s1) S.c1
      (select (andi (xori (cmpf .ogt s S.s1) (constantI S128x2048 1 1#1)) (cmpf .ogt s S.s2)) col S.c2)⟩

/-- The columns of a point's block that starts at `o` within the point. -/
def cols (i : grid1.Coords) (o : BitVec 32) : IVec S128x2048 32 := addi (k1_pay97 i) (broadcast S128x2048 o)

/-- The first block of the first point, plainly. -/
theorem first_eq (i : grid1.Coords) (x : Blk F) (g : FVec F S128x2048 .bf16) :
    first i x g = ⟨masked (cols i 0#32) x g, log x, cols i 0#32, broadcast S128x2048 (Scalar.ofBits .f32 0xFF800000#32),
      broadcast S128x2048 (Scalar.ofBits .f32 0x00000000#32), broadcast S128x2048 2147483647#32⟩ := by
  simp only [first, k1_pay101, k1_pay102, k1_pay103, k1_pay104, k1_pay105, k1_pay106, k1_pay100, k1_pay99, k1_pay98, shapeCast_self]
  rfl

/-- The first block of a later point, plainly. -/
theorem ins0_eq (i : grid1.Coords) (x : Blk F) (g : FVec F S128x2048 .bf16) (S : Sc F) :
    ins0 i x g S = insert (cols i 0#32) (log x) (masked (cols i 0#32) x g) S := by
  simp only [ins0, k1_pay4, k1_pay5, k1_pay6, k1_pay7, k1_pay8, k1_pay9, k1_pay10, k1_pay107, k1_pay108, k1_pay100, k1_pay99, k1_pay98,
    shapeCast_self]
  rfl

/-- The second block of a point, plainly. -/
theorem ins1_eq (i : grid1.Coords) (x : Blk F) (g : FVec F S128x2048 .bf16) (S : Sc F) :
    ins1 i x g S = insert (cols i 2048#32) (log x) (masked (cols i 2048#32) x g) S := by
  simp only [ins1, k1_pay109, k1_pay110, k1_pay111, k1_pay112, k1_pay113, k1_pay114, k1_pay115, k1_pay116, k1_pay117, k1_pay118,
    k1_pay119, k1_pay120, shapeCast_self]
  rfl

/-- The third block of a point, plainly. -/
theorem ins2_eq (i : grid1.Coords) (x : Blk F) (g : FVec F S128x2048 .bf16) (S : Sc F) :
    ins2 i x g S = insert (cols i 4096#32) (log x) (masked (cols i 4096#32) x g) S := by
  simp only [ins2, k1_pay121, k1_pay122, k1_pay123, k1_pay124, k1_pay125, k1_pay126, k1_pay127, k1_pay128, k1_pay129, k1_pay130,
    k1_pay131, k1_pay132, shapeCast_self]
  rfl

/-- The fourth block of a point, plainly. -/
theorem ins3_eq (i : grid1.Coords) (x : Blk F) (g : FVec F S128x2048 .bf16) (S : Sc F) :
    ins3 i x g S = insert (cols i 6144#32) (log x) (masked (cols i 6144#32) x g) S := by
  simp only [ins3, k1_pay1, k1_pay2, k1_pay133, k1_pay134, k1_pay135, k1_pay136, k1_pay137, k1_pay138, k1_pay139, k1_pay140,
    k1_pay141, k1_pay142, k1_pay143, shapeCast_self]
  rfl

end generic

/-- A choice by "greater" over the reals. -/
theorem select_gt {α : Type} (a b : Ideal .f32) (x y : α) :
    Scalar.select (FloatOps.cmpf .ogt a b) x y = if (b : EReal) < a then x else y := by
  by_cases h : (b : EReal) < a <;> simp [Scalar.select, Ideal.cmpf_def, Ideal.cmp, h]

/-- A choice by "not greater than the one but greater than the other" over the reals. -/
theorem select_gt2 {α : Type} (a b d : Ideal .f32) (x y : α) :
    Scalar.select (IntOp.andi (IntOp.xori (FloatOps.cmpf .ogt a b) 1#1) (FloatOps.cmpf .ogt a d)) x y
      = if ¬ (b : EReal) < a ∧ (d : EReal) < a then x else y := by
  by_cases h : (b : EReal) < a <;> by_cases h' : (d : EReal) < a <;>
    simp [Scalar.select, IntOp.andi, IntOp.xori, Ideal.cmpf_def, Ideal.cmp, h, h']

/-- Minus infinity's pattern. -/
theorem negInf : (FloatOps.ofBits .f32 0xFF800000#32 : Ideal .f32) = (⊥ : EReal) := by
  show Ideal.ofBits .f32 0xFF800000#32 = _
  simp [Ideal.ofBits, Ideal.ieee]

/-- Comparing a small word with the row's length. -/
theorem slt_row {q : ℕ} (h : q < 2 ^ 31) : (IntOp.cmpi .slt (BitVec.ofNat 32 q) 100000#32 = 1) ↔ q < 100000 := by
  have e : (BitVec.ofNat 32 q).toInt = q := by
    rw [BitVec.toInt_eq_toNat_of_lt (by rw [BitVec.toNat_ofNat]; omega), BitVec.toNat_ofNat, Nat.mod_eq_of_lt (by omega)]
  have e' : (100000#32 : BitVec 32).toInt = 100000 := by decide
  by_cases hq : q < 100000 <;> simp [IntOp.cmpi, BitVec.slt, e, e', hq]

/-- A choice by whether a column is inside the row. -/
theorem select_row {α : Type} {q : ℕ} (h : q < 2 ^ 31) (x y : α) :
    Scalar.select (IntOp.cmpi .slt (BitVec.ofNat 32 q) 100000#32) x y = if q < 100000 then x else y := by
  have e := slt_row h
  unfold Scalar.select
  by_cases hq : q < 100000
  · rw [if_pos hq, if_pos (e.mpr hq)]
  · rw [if_neg hq, if_neg fun k => hq (e.mp k)]

/-- The columns of a point's block, in numbers. -/
theorem cols_apply (i : grid1.Coords) (k : ℕ) (j : S128x2048.Idx) :
    cols i (BitVec.ofNat 32 (2048 * k)) j = BitVec.ofNat 32 (2048 * (4 * (i 0).val + k) + (j 1).val) := by
  have e : cols i (BitVec.ofNat 32 (2048 * k)) j
      = iota .tc S128x2048 32 [1] iota_S128x2048_d1_w32 j + 4#32 * BitVec.ofNat 32 (i 0).val * 2048#32 + BitVec.ofNat 32 (2048 * k) := rfl
  rw [e, lanes_apply]
  simp only [BitVec.ofNat_add, BitVec.ofNat_mul, BitVec.mul_add]
  rw [BitVec.add_comm (BitVec.ofNat 32 (j 1).val), BitVec.add_assoc, BitVec.add_comm (BitVec.ofNat 32 (j 1).val), ← BitVec.add_assoc,
    BitVec.mul_comm (4#32 * _)]

/-- What a lane's best two are after the blocks before `n`, the row having logarithms `Lf` and scores `sc`: the best is the first of the
    greatest of the lane's columns, and the second best is some column of the row or none. -/
def Good (Lf sc : ℕ → EReal) (l n : ℕ) (s1 l1 : EReal) (c1 : BitVec 32) (l2 : EReal) (c2 : BitVec 32) : Prop :=
  (∃ i, i < n ∧ 2048 * i + l < 100000 ∧ c1 = BitVec.ofNat 32 (2048 * i + l) ∧ l1 = Lf (2048 * i + l) ∧ s1 = sc (2048 * i + l)
      ∧ ∀ i' < n, 2048 * i' + l < 100000 → sc (2048 * i' + l) ≤ s1 ∧ (i' < i → sc (2048 * i' + l) < s1))
    ∧ (c2 = 2147483647#32 ∨ ∃ q < 100000, c2 = BitVec.ofNat 32 q ∧ l2 = Lf q)

/-- `Good` at one lane of the scratch. -/
def GoodAt (Lf sc : ℕ → EReal) (n : ℕ) (S : Sc Ideal) (j : S128x2048.Idx) : Prop :=
  Good Lf sc (j 1).val n (S.s1 j) (S.l1 j) (S.c1 j) (S.l2 j) (S.c2 j)

/-- Entering a block keeps `Good`. -/
theorem good_insert {Lf sc : ℕ → EReal} {n : ℕ} {S : Sc Ideal} {j : S128x2048.Idx} (hS : GoodAt Lf sc n S j)
    (col : IVec S128x2048 32) (l s : Blk Ideal) (hc : col j = BitVec.ofNat 32 (2048 * n + (j 1).val))
    (hin : 2048 * n + (j 1).val < 100000 → l j = Lf (2048 * n + (j 1).val) ∧ s j = sc (2048 * n + (j 1).val))
    (hout : ¬ 2048 * n + (j 1).val < 100000 → s j = (⊥ : EReal)) :
    GoodAt Lf sc (n + 1) (insert col l s S) j := by
  obtain ⟨⟨i, hi, hr, e1, e2, e3, hmax⟩, h2⟩ := hS
  have f1 : (insert col l s S).s1 j = if (S.s1 j : EReal) < s j then s j else S.s1 j := select_gt _ _ _ _
  have f2 : (insert col l s S).l1 j = if (S.s1 j : EReal) < s j then l j else S.l1 j := select_gt _ _ _ _
  have f3 : (insert col l s S).c1 j = if (S.s1 j : EReal) < s j then col j else S.c1 j := select_gt _ _ _ _
  have f4 : (insert col l s S).l2 j = if (S.s1 j : EReal) < s j then S.l1 j
      else if ¬ (S.s1 j : EReal) < s j ∧ (S.s2 j : EReal) < s j then l j else S.l2 j :=
    (select_gt _ _ _ _).trans (by rw [← select_gt2]; rfl)
  have f5 : (insert col l s S).c2 j = if (S.s1 j : EReal) < s j then S.c1 j
      else if ¬ (S.s1 j : EReal) < s j ∧ (S.s2 j : EReal) < s j then col j else S.c2 j :=
    (select_gt _ _ _ _).trans (by rw [← select_gt2]; rfl)
  unfold GoodAt Good
  rw [f1, f2, f3, f4, f5]
  have live : ∀ b : EReal, b < s j → 2048 * n + (j 1).val < 100000 := fun b hb => by
    by_contra hx; rw [hout hx] at hb; exact not_lt_bot hb
  by_cases hg : (S.s1 j : EReal) < s j
  · simp only [if_pos hg]
    have hx := live _ hg
    refine ⟨⟨n, by omega, hx, hc, (hin hx).1, (hin hx).2, fun i' hi' hr' => ?_⟩, Or.inr ⟨_, hr, e1, e2⟩⟩
    rcases Nat.lt_succ_iff_lt_or_eq.mp hi' with h | rfl
    · have := (hmax i' h hr').1.trans_lt hg
      exact ⟨this.le, fun _ => this⟩
    · exact ⟨le_of_eq (hin hx).2.symm, fun h => absurd h (lt_irrefl _)⟩
  · simp only [if_neg hg]
    refine ⟨⟨i, by omega, hr, e1, e2, e3, fun i' hi' hr' => ?_⟩, ?_⟩
    · rcases Nat.lt_succ_iff_lt_or_eq.mp hi' with h | rfl
      · exact hmax i' h hr'
      · refine ⟨?_, fun h => absurd h (by omega)⟩
        rw [← (hin hr').2]; exact not_lt.mp hg
    · by_cases hd : (S.s2 j : EReal) < s j
      · rw [if_pos ⟨hg, hd⟩, if_pos ⟨hg, hd⟩]
        have hx := live _ hd
        exact Or.inr ⟨_, hx, hc, (hin hx).1⟩
      · rw [if_neg fun h => hd h.2, if_neg fun h => hd h.2]
        exact h2

end Cert.KernelIdeal.Gen
-- ==== Proof.Ideal.Inv.lean ====
module

public import proofs.«01_k».proof.Proof.Ideal.Content
public import proofs.«01_k».proof.Proof.Ideal.Lanes

/-! The invariant of the scoring call: after `t` points every lane's best two are those of its first `4 t` columns. -/

@[expose] public section

noncomputable section

namespace Cert.KernelIdeal.Gen

open Idealize.ShloMosaic Idealize.ShloMosaic.TcCoe

variable (m : (ℓ : Loc nD τ sig) → Buf (Elt Ideal) ℓ)

/-- The argument, 128 rows of 100000 logits. -/
abbrev logits (c : Dev nD) : S128x100000.Idx → EReal := m ((c : Thread nD τ).loc main_arg0)

/-- Logarithm of the logit in row `r` and column `q` (beyond the row, anything). -/
def logAt (a : S128x100000.Idx → EReal) (r : Fin 128) (q : ℕ) : EReal :=
  if h : q < 100000 then (FloatOps.log (F := Ideal) (φ := .f32) (a (ValueIdx.ix2 r ⟨q, h⟩)) : EReal) else 0

/-- The noise in row `r` and column `q`. -/
def gumAt (r : Fin 128) (q : ℕ) : EReal := noise (F := Ideal) (BitVec.ofNat 32 r.val * 100000#32 + BitVec.ofNat 32 q)

/-- The score in row `r` and column `q`. -/
def scoreAt (a : S128x100000.Idx → EReal) (r : Fin 128) (q : ℕ) : EReal := logAt a r q + gumAt r q

/-- The invariant: before the first point nothing, and after `t` points every lane's best two are those of its first `4 t` columns. -/
def Inv (c : Dev nD) (t : ℕ) (S : Sc Ideal) : Prop :=
  t = 0 ∨ ∀ j : S128x2048.Idx, GoodAt (logAt (logits m c) (j 0)) (scoreAt (logits m c) (j 0)) (4 * t) S j

/-- A masked score, element by element. -/
theorem masked_apply (col : IVec S128x2048 32) (x : Blk Ideal) (g : FVec Ideal S128x2048 .bf16) (j : S128x2048.Idx) :
    masked col x g j = Scalar.select (IntOp.cmpi .slt (col j) 100000#32)
      ((FloatOps.log (x j) : EReal) + (g j : EReal) : EReal) (⊥ : EReal) := by
  rw [← negInf]
  rfl

/-- The `k`-th block of a point: inside the row its logarithms and scores are the row's, beyond it the score is minus infinity. -/
theorem block_apply (a : S128x100000.Idx → EReal) (i : grid1.Coords) (k : ℕ) (hk : k < 4) (hi : (i 0).val < 13) (x : Blk Ideal)
    (g : FVec Ideal S128x2048 .bf16) (j : S128x2048.Idx)
    (hx : ∀ p : S128x100000.Idx, (p 0).val = (j 0).val → (p 1).val = (4 * (i 0).val + k) * 2048 + (j 1).val → x j = a p)
    (hg : ∀ p : S128x100000.Idx, (p 0).val = (j 0).val → (p 1).val = (4 * (i 0).val + k) * 2048 + (j 1).val
      → g j = (noise (F := Ideal) (flat p) : EReal)) :
    (2048 * (4 * (i 0).val + k) + (j 1).val < 100000
      → log x j = logAt a (j 0) (2048 * (4 * (i 0).val + k) + (j 1).val)
        ∧ masked (cols i (BitVec.ofNat 32 (2048 * k))) x g j = scoreAt a (j 0) (2048 * (4 * (i 0).val + k) + (j 1).val))
    ∧ (¬ 2048 * (4 * (i 0).val + k) + (j 1).val < 100000 → masked (cols i (BitVec.ofNat 32 (2048 * k))) x g j = (⊥ : EReal)) := by
  have b3 : (j 1).val < 2048 := (j 1).isLt
  rw [masked_apply, cols_apply]
  rw [select_row (by omega)]
  refine ⟨fun h => ?_, fun h => if_neg h⟩
  have ex := hx (ValueIdx.ix2 (j 0) ⟨_, h⟩) rfl (by show 2048 * _ + _ = _; omega)
  have eg := hg (ValueIdx.ix2 (j 0) ⟨_, h⟩) rfl (by show 2048 * _ + _ = _; omega)
  rw [if_pos h]
  have el : (FloatOps.log (x j) : EReal) = logAt a (j 0) (2048 * (4 * (i 0).val + k) + (j 1).val) := by
    unfold logAt
    rw [dif_pos h, ex]
  refine ⟨el, ?_⟩
  unfold scoreAt
  rw [el, eg]
  rfl

/-- Entering the `k`-th block of a point. -/
theorem enter (a : S128x100000.Idx → EReal) (i : grid1.Coords) (k : ℕ) (hk : k < 4) (hi : (i 0).val < 13) (x : Blk Ideal)
    (g : FVec Ideal S128x2048 .bf16) (j : S128x2048.Idx)
    (hx : ∀ p : S128x100000.Idx, (p 0).val = (j 0).val → (p 1).val = (4 * (i 0).val + k) * 2048 + (j 1).val → x j = a p)
    (hg : ∀ p : S128x100000.Idx, (p 0).val = (j 0).val → (p 1).val = (4 * (i 0).val + k) * 2048 + (j 1).val
      → g j = (noise (F := Ideal) (flat p) : EReal)) (S : Sc Ideal)
    (hS : GoodAt (logAt a (j 0)) (scoreAt a (j 0)) (4 * (i 0).val + k) S j) :
    GoodAt (logAt a (j 0)) (scoreAt a (j 0)) (4 * (i 0).val + (k + 1))
      (insert (cols i (BitVec.ofNat 32 (2048 * k))) (log x) (masked (cols i (BitVec.ofNat 32 (2048 * k))) x g) S) j :=
  good_insert hS _ _ _ (cols_apply i k j) (block_apply a i k hk hi x g j hx hg).1 (block_apply a i k hk hi x g j hx hg).2

/-- The first block of the first point. -/
theorem enter_first (a : S128x100000.Idx → EReal) (i : grid1.Coords) (hi : (i 0).val = 0) (x : Blk Ideal)
    (g : FVec Ideal S128x2048 .bf16) (j : S128x2048.Idx)
    (hx : ∀ p : S128x100000.Idx, (p 0).val = (j 0).val → (p 1).val = (4 * (i 0).val + 0) * 2048 + (j 1).val → x j = a p)
    (hg : ∀ p : S128x100000.Idx, (p 0).val = (j 0).val → (p 1).val = (4 * (i 0).val + 0) * 2048 + (j 1).val
      → g j = (noise (F := Ideal) (flat p) : EReal)) :
    GoodAt (logAt a (j 0)) (scoreAt a (j 0)) (4 * (i 0).val + 1) (first i x g) j := by
  have b3 : (j 1).val < 2048 := (j 1).isLt
  obtain ⟨h1, h2⟩ := (block_apply a i 0 (by omega) (by omega) x g j hx hg).1 (by omega)
  have hc := cols_apply i 0 j
  rw [hi] at h1 h2 hc ⊢
  rw [first_eq]
  refine ⟨⟨0, by omega, by omega, hc, h1, h2, fun i' hi' _ => ?_⟩, Or.inl rfl⟩
  obtain rfl : i' = 0 := by omega
  exact ⟨le_of_eq h2.symm, fun h => absurd h (by omega)⟩

/-- The first point is the first and no later one. -/
theorem first_point : ∀ t : Fin cfg1.N, t.val = 0 → isFirst (grid1.coords t) = 1#1 ∧ ¬ isLater (grid1.coords t) = 1#1 := by
  decide +kernel

/-- A later point is a later one and not the first. -/
theorem later_point : ∀ t : Fin cfg1.N, t.val ≠ 0 → ¬ isFirst (grid1.coords t) = 1#1 ∧ isLater (grid1.coords t) = 1#1 := by
  decide +kernel

/-- What the scoring call is entered with: the argument as launched, the table as left. -/
theorem VS_arg (c : Dev nD) : VS m c main_arg0 = logits m c := (W1_of m c main_arg0 (by decide)).trans rfl

/-- The table that the scoring call is entered with. -/
theorem VS_tab (c : Dev nD) (p : S128x100000.Idx) : VS m c main_call0_v0 p = (noise (F := Ideal) (flat p) : EReal) := by
  rw [VS, W1_tab, tab_eq]

/-- One point keeps the invariant. -/
theorem steps : Steps (VS m) (Inv m) := by
  intro c t S d0 d1 d2 d3 e0 e1 e2 e3 hI
  refine Or.inr fun j => ?_
  have hi := coord1 t
  have hi' : ((grid1.coords t) 0).val < 13 := ((grid1.coords t) 0).isLt
  have fx0 := fun p h0 h1 => (found0 (VS m) c t d0 j p h0 (hi ▸ h1)).trans (congrFun (VS_arg m c) p)
  have fx1 := fun p h0 h1 => (found1 (VS m) c t d1 j p h0 (hi ▸ h1)).trans (congrFun (VS_arg m c) p)
  have fx2 := fun p h0 h1 => (found2 (VS m) c t d2 j p h0 (hi ▸ h1)).trans (congrFun (VS_arg m c) p)
  have fx3 := fun p h0 h1 => (found3 (VS m) c t d3 j p h0 (hi ▸ h1)).trans (congrFun (VS_arg m c) p)
  have fg0 := fun p h0 h1 => (found4 (VS m) c t e0 j p h0 (hi ▸ h1)).trans (VS_tab m c p)
  have fg1 := fun p h0 h1 => (found5 (VS m) c t e1 j p h0 (hi ▸ h1)).trans (VS_tab m c p)
  have fg2 := fun p h0 h1 => (found6 (VS m) c t e2 j p h0 (hi ▸ h1)).trans (VS_tab m c p)
  have fg3 := fun p h0 h1 => (found7 (VS m) c t e3 j p h0 (hi ▸ h1)).trans (VS_tab m c p)
  have hlead : GoodAt (logAt (logits m c) (j 0)) (scoreAt (logits m c) (j 0)) (4 * ((grid1.coords t) 0).val + 1)
      (lead (grid1.coords t) (found (VS m) c 0 t d0) (found (VS m) c 4 t e0) S) j := by
    unfold lead
    by_cases h : t.val = 0
    · rw [if_pos (first_point t h).1, if_neg (first_point t h).2]
      exact enter_first (logits m c) _ (hi.trans h) _ _ j fx0 fg0
    · rw [if_neg (later_point t h).1, if_pos (later_point t h).2, ins0_eq]
      refine enter (logits m c) _ 0 (by omega) hi' _ _ j fx0 fg0 S ?_
      rw [hi]
      exact (hI.resolve_left h) j
  unfold step
  rw [ins1_eq, ins2_eq, ins3_eq]
  have h := enter (logits m c) _ 3 (by omega) hi' _ _ j fx3 fg3 _
    (enter (logits m c) _ 2 (by omega) hi' _ _ j fx2 fg2 _ (enter (logits m c) _ 1 (by omega) hi' _ _ j fx1 fg1 _ hlead))
  rw [hi] at h
  exact h

end Cert.KernelIdeal.Gen
-- ==== Proof.FirstMax.lean ====
module

public import Idealize.ShloMosaic.PureOps.Ideal
public import Idealize.ShloMosaic.Lib.WordArith

/-! The first of the greatest of a row of scores. -/

@[expose] public section

noncomputable section

namespace Cert.FirstMax

open Idealize.ShloMosaic

/-- Column `A` is the first of the columns of greatest score. -/
def IsFirst (sc : ℕ → EReal) (A : ℕ) : Prop := A < 100000 ∧ ∀ q < 100000, sc q ≤ sc A ∧ (q < A → sc q < sc A)

/-- There is such a column. -/
theorem exists_first (sc : ℕ → EReal) : ∃ A, IsFirst sc A := by
  classical
  obtain ⟨B, hB, hmax⟩ := Finset.exists_max_image (Finset.range 100000) sc ⟨0, by simp⟩
  have hex : ∃ A, A < 100000 ∧ sc A = sc B := ⟨B, Finset.mem_range.mp hB, rfl⟩
  obtain ⟨hA, e⟩ := Nat.find_spec hex
  refine ⟨Nat.find hex, hA, fun q hq => ?_⟩
  have hle : sc q ≤ sc (Nat.find hex) := (hmax q (Finset.mem_range.mpr hq)).trans (le_of_eq e.symm)
  refine ⟨hle, fun hlt => lt_of_le_of_ne hle fun he => ?_⟩
  exact Nat.find_min hex hlt ⟨hq, he.trans e⟩

/-- And only one. -/
theorem first_unique {sc : ℕ → EReal} {A B : ℕ} (hA : IsFirst sc A) (hB : IsFirst sc B) : A = B := by
  rcases lt_trichotomy A B with h | h | h
  · exact absurd ((hB.2 A hA.1).2 h) (not_lt.mpr (hA.2 B hB.1).1)
  · exact h
  · exact absurd ((hA.2 B hB.1).2 h) (not_lt.mpr (hB.2 A hA.1).1)

/-- A running maximum over a list: the greatest value, if some value is it and none is greater. -/
theorem foldl_max {ι : Type} (f : ι → EReal) (M : EReal) : ∀ (L : List ι) (b : EReal), b ≤ M → (∀ i ∈ L, f i ≤ M) →
    (b = M ∨ ∃ i ∈ L, f i = M) → L.foldl (fun r i => max r (f i)) b = M
  | [], b, _, _, h => by simpa using h
  | i :: L, b, hb, hL, h => by
    refine foldl_max f M L _ (max_le hb (hL i (by simp))) (fun k hk => hL k (by simp [hk])) ?_
    rcases h with rfl | ⟨k, hk, e⟩
    · exact Or.inl (max_eq_left (hL i (by simp)))
    · rcases List.mem_cons.mp hk with rfl | hk
      · exact Or.inl ((congrArg (max b) e).trans (max_eq_right hb))
      · exact Or.inr ⟨k, hk, e⟩

/-- A running maximum stays below a bound of all values. -/
theorem foldl_max_le {ι : Type} (f : ι → EReal) (M : EReal) : ∀ (L : List ι) (b : EReal), b ≤ M → (∀ i ∈ L, f i ≤ M) →
    L.foldl (fun r i => max r (f i)) b ≤ M
  | [], _, hb, _ => hb
  | i :: L, _, hb, hL => foldl_max_le f M L _ (max_le hb (hL i (by simp))) fun k hk => hL k (by simp [hk])

/-- A running signed minimum over a list of small words. -/
theorem foldl_min {ι : Type} (f : ι → BitVec 32) (A : ℕ) : ∀ (L : List ι) (b : BitVec 32), A ≤ b.toNat → b.toNat < 2 ^ 31 →
    (∀ i ∈ L, A ≤ (f i).toNat ∧ (f i).toNat < 2 ^ 31) → (b.toNat = A ∨ ∃ i ∈ L, (f i).toNat = A) →
    (L.foldl (fun r i => IntOp.minsi r (f i)) b).toNat = A
  | [], b, _, _, _, h => by simpa using h
  | i :: L, b, hb, hb', hL, h => by
    have hi := hL i (by simp)
    have e := WordArith.toNat_minsi_of_lt b (f i) hb' hi.2
    refine foldl_min f A L _ (by rw [e]; exact le_min hb hi.1) (by rw [e]; exact lt_of_le_of_lt (min_le_left _ _) hb')
      (fun k hk => hL k (by simp [hk])) ?_
    rw [e]
    rcases h with h | ⟨k, hk, ek⟩
    · exact Or.inl (by omega)
    · rcases List.mem_cons.mp hk with rfl | hk
      · exact Or.inl (by omega)
      · exact Or.inr ⟨k, hk, ek⟩

/-- The better of two scored columns: the greater score, and among equal scores the smaller column. -/
def pick (a b : EReal × BitVec 32) : EReal × BitVec 32 :=
  (if b.1 < a.1 then a.1 else b.1, if b.1 < a.1 ∨ (a.1 = b.1 ∧ a.2.toNat < b.2.toNat) then a.2 else b.2)

/-- A scored column that does not beat the column of score `M` and number `A`. -/
def Under (M : EReal) (A : ℕ) (p : EReal × BitVec 32) : Prop :=
  p.2.toNat < 2 ^ 31 ∧ (p.1 < M ∨ (p.1 = M ∧ A ≤ p.2.toNat))

/-- The better of two that do not beat a column does not beat it. -/
theorem under_pick {M : EReal} {A : ℕ} {a b : EReal × BitVec 32} (ha : Under M A a) (hb : Under M A b) : Under M A (pick a b) := by
  unfold pick
  by_cases h : b.1 < a.1
  · rw [if_pos h, if_pos (Or.inl h)]; exact ha
  · rw [if_neg h]
    by_cases h' : a.1 = b.1 ∧ a.2.toNat < b.2.toNat
    · rw [if_pos (Or.inr h'), ← h'.1]; exact ha
    · rw [if_neg (not_or.mpr ⟨h, h'⟩)]; exact hb

/-- The best column is the better of the two if it is the first. -/
theorem pick_left {T b : EReal × BitVec 32} (hb : Under T.1 T.2.toNat b) : pick T b = T := by
  obtain ⟨-, h | ⟨h, h'⟩⟩ := hb
  · unfold pick; rw [if_pos h, if_pos (Or.inl h)]
  · have n : ¬ b.1 < T.1 := by rw [h]; exact lt_irrefl _
    unfold pick
    rw [if_neg n]
    by_cases k : T.2.toNat < b.2.toNat
    · rw [if_pos (Or.inr ⟨h.symm, k⟩), h]
    · rw [if_neg (not_or.mpr ⟨n, fun e => k e.2⟩), h, BitVec.eq_of_toNat_eq (show b.2.toNat = T.2.toNat by omega)]

/-- The best column is the better of the two if it is the second. -/
theorem pick_right {T a : EReal × BitVec 32} (ha : Under T.1 T.2.toNat a) : pick a T = T := by
  unfold pick
  obtain ⟨-, h | ⟨h, h'⟩⟩ := ha
  · have n := not_lt.mpr h.le
    rw [if_neg n, if_neg (not_or.mpr ⟨n, fun e => h.ne e.1⟩)]
  · have n : ¬ T.1 < a.1 := by rw [h]; exact lt_irrefl _
    rw [if_neg n, if_neg (not_or.mpr ⟨n, fun e => by omega⟩)]

/-- A running choice of the better column ends at the best, if it is among them. -/
theorem foldl_pick {ι : Type} (f : EReal × BitVec 32 → EReal × BitVec 32 → EReal × BitVec 32)
    (hf : ∀ a b, a.2.toNat < 2 ^ 31 → b.2.toNat < 2 ^ 31 → f a b = pick a b) (T : EReal × BitVec 32) (g : ι → EReal × BitVec 32) :
    ∀ (L : List ι) (b : EReal × BitVec 32), Under T.1 T.2.toNat b → (∀ i ∈ L, Under T.1 T.2.toNat (g i)) →
      (b = T ∨ ∃ i ∈ L, g i = T) → L.foldl (fun r i => f r (g i)) b = T
  | [], b, _, _, h => by simpa using h
  | i :: L, b, hb, hL, h => by
    have hi := hL i (by simp)
    have e : (fun r i => f r (g i)) b i = pick b (g i) := hf b (g i) hb.1 hi.1
    refine foldl_pick f hf T g L _ (by rw [e]; exact under_pick hb hi) (fun k hk => hL k (by simp [hk])) ?_
    rw [e]
    rcases h with rfl | ⟨k, hk, ek⟩
    · exact Or.inl (pick_left hi)
    · rcases List.mem_cons.mp hk with rfl | hk
      · exact Or.inl (by rw [ek]; exact pick_right hb)
      · exact Or.inr ⟨k, hk, ek⟩

end Cert.FirstMax
-- ==== Proof.Ideal.Emit.lean ====
module

public import proofs.«01_k».proof.Proof.Ideal.Inv
public import proofs.«01_k».proof.Proof.FirstMax

/-! What the last point emits: of every row the first of the columns of greatest score. -/

@[expose] public section

noncomputable section

namespace Cert.KernelIdeal.Gen

open Idealize.ShloMosaic Idealize.ShloMosaic.TcCoe Cert.FirstMax Cert.Words

variable (m : (ℓ : Loc nD τ sig) → Buf (Elt Ideal) ℓ)

/-- The scores of the lanes' second best, computed anew. -/
def again2 (S : Sc Ideal) : Blk Ideal :=
  select (cmpi .slt S.c2 (broadcast S128x2048 100000#32))
    (addf S.l2 (subf (broadcast S128x2048 (Scalar.ofBits .f32 0x00000000#32))
      (log (subf (broadcast S128x2048 (Scalar.ofBits .f32 0x00000000#32)) (rescore2 S.c2)))))
    (broadcast S128x2048 (Scalar.ofBits .f32 0xFF800000#32))

/-- The greatest of each row of a block. -/
def rowMax (x : Blk Ideal) : FVec Ideal S128x1 .f32 :=
  shapeCast S128x1 (multiReduction .maximumf [1] S128 x 0xFF800000#32 reduces_S128x2048_S128 (.inl rfl) rfl) shapeCasts_S128_S128x1

/-- The columns of greatest score of a row's lanes, and the greatest word where the score is less. -/
def cands (x y : Blk Ideal) (c d : IVec S128x2048 32) : IVec S128x2048 32 :=
  minsi
    (select (cmpf .oeq x (broadcastTo S128x2048 (maximumf (rowMax x) (rowMax y)) broadcasts_S128x1_S128x2048)) c
      (broadcast S128x2048 2147483647#32))
    (select (cmpf .oeq y (broadcastTo S128x2048 (maximumf (rowMax x) (rowMax y)) broadcasts_S128x1_S128x2048)) d
      (broadcast S128x2048 2147483647#32))

/-- What the last point emits, plainly. -/
theorem emit_eq (S : Sc Ideal) : emit S = shapeCast S128x1
    (multiReductionI .minsi [1] S128 (cands (rescore1 S.c1 S.l1) (again2 S) S.c1 S.c2) 2147483647#32 reduces_S128x2048_S128 rfl)
    shapeCasts_S128_S128x1 := rfl

/-- The row that a lane reduces into. -/
theorem drop_val (i : S128x2048.Idx) (b : Fin 1) : (reduces_S128x2048_S128.drop i b).val = (i 0).val := by
  obtain rfl : b = 0 := Subsingleton.elim _ _
  rfl

/-- A list of the lanes of row `r`. -/
def row (r : Fin 128) : List S128x2048.Idx :=
  ((List.finRange S128x2048.numel).map S128x2048.rowMajor.symm).filter
    fun i => reduces_S128x2048_S128.drop i = (ValueIdx.ix1 r : S128.Idx)

/-- Membership in a row. -/
theorem mem_row (r : Fin 128) (i : S128x2048.Idx) : i ∈ row r ↔ i 0 = r := by
  unfold row
  rw [List.mem_filter, decide_eq_true_eq]
  constructor
  · rintro ⟨-, h⟩
    exact Fin.ext ((drop_val i 0).symm.trans (congrArg Fin.val (congrFun h (0 : Fin 1))))
  · intro h
    refine ⟨List.mem_map.mpr ⟨S128x2048.rowMajor i, List.mem_finRange _, by simp⟩, funext fun b => Fin.ext ?_⟩
    rw [drop_val, h]
    obtain rfl : b = 0 := Subsingleton.elim _ _
    rfl

/-- A reduction's column, read at a row. -/
theorem column {α : Type} (x : S128.Idx → α) (r : Fin 128) (z : Fin 1) :
    shapeCast S128x1 x shapeCasts_S128_S128x1 (ValueIdx.ix2 r z) = x (ValueIdx.ix1 r) := by
  refine shapeCast_apply x _ _ _ ?_
  obtain rfl : z = 0 := Subsingleton.elim _ _
  simp [Shape.rowMajor_val_one, Shape.rowMajor_val_two]

/-- The greatest of a row. -/
theorem rowMax_apply (x : Blk Ideal) (r : Fin 128) (z : Fin 1) :
    rowMax x (ValueIdx.ix2 r z) = ((row r).foldl (fun b i => max b (x i : EReal)) (⊥ : EReal) : EReal) := by
  unfold rowMax
  rw [column, ← negInf]
  exact reduceFold_eq_foldl _ _ _ _ _

/-- A column's score computed anew, element by element. -/
theorem again_one (a : S128x100000.Idx → EReal) {S : Sc Ideal} {j : S128x2048.Idx} {q : ℕ} (hq : q < 100000)
    (hc : S.c1 j = BitVec.ofNat 32 q) (hl : S.l1 j = logAt a (j 0) q) :
    (rescore1 S.c1 S.l1 j : EReal) = scoreAt a (j 0) q := by
  rw [rescore1_apply, hc, select_row (by omega), if_pos hq, hl]
  rfl

/-- The noise, from the logarithm of its uniform variate. -/
theorem noise_of {F : FTy → Type} [FloatOps F] (w : BitVec 32) : noise (F := F) w = FloatOps.subf (FloatOps.ofBits .f32 0x00000000#32)
    (FloatOps.log (FloatOps.subf (FloatOps.ofBits .f32 0x00000000#32) (FloatOps.log (unif (bits w))))) := by
  unfold noise gum
  rfl

/-- The second score's last step, element by element. -/
theorem second_apply {F : FTy → Type} [FloatOps F] (l x : FVec F S128x2048 .f32) (c : IVec S128x2048 32) (j : S128x2048.Idx) :
    select (cmpi .slt c (broadcast S128x2048 100000#32))
      (addf l (subf (broadcast S128x2048 (Scalar.ofBits .f32 0x00000000#32))
        (log (subf (broadcast S128x2048 (Scalar.ofBits .f32 0x00000000#32)) x))))
      (broadcast S128x2048 (Scalar.ofBits .f32 0xFF800000#32)) j
    = Scalar.select (IntOp.cmpi .slt (c j) 100000#32)
      (FloatOps.addf (l j) (FloatOps.subf (FloatOps.ofBits .f32 0x00000000#32)
        (FloatOps.log (FloatOps.subf (FloatOps.ofBits .f32 0x00000000#32) (x j)))))
      (FloatOps.ofBits .f32 0xFF800000#32) := rfl

/-- The second score computed anew, element by element. -/
theorem again2_apply (S : Sc Ideal) (j : S128x2048.Idx) :
    again2 S j = Scalar.select (IntOp.cmpi .slt (S.c2 j) 100000#32)
      (FloatOps.addf (S.l2 j) (noise (F := Ideal) (BitVec.ofNat 32 (j 0).val * 100000#32 + S.c2 j)))
      (FloatOps.ofBits .f32 0xFF800000#32) := by
  unfold again2
  rw [second_apply, rescore2_apply, noise_of]

/-- A second best column's score computed anew. -/
theorem again_two (a : S128x100000.Idx → EReal) {S : Sc Ideal} {j : S128x2048.Idx} {q : ℕ} (hq : q < 100000)
    (hc : S.c2 j = BitVec.ofNat 32 q) (hl : S.l2 j = logAt a (j 0) q) : (again2 S j : EReal) = scoreAt a (j 0) q := by
  rw [again2_apply, hc, select_row (by omega), if_pos hq, hl]
  rfl

/-- Where there is no second best column the score is minus infinity. -/
theorem again_none {S : Sc Ideal} {j : S128x2048.Idx} (hc : S.c2 j = 2147483647#32) : (again2 S j : EReal) = ⊥ := by
  rw [again2_apply, hc, ← negInf]
  exact (select_row (q := 2147483647) (by omega) _ _).trans (if_neg (by omega))

/-- A choice by equality of two scores. -/
theorem select_eq {α : Type} (x y : EReal) (c d : α) :
    Scalar.select (FloatOps.cmpf (F := Ideal) (φ := .f32) .oeq x y) c d = if x = y then c else d := by
  rw [Ideal.cmpf_def]
  unfold Scalar.select Ideal.cmp
  by_cases h : x = y <;> simp [h]

/-- The candidates, element by element, where the row's greatest score is `M`. -/
theorem cands_apply (x y : Blk Ideal) (c d : IVec S128x2048 32) (j : S128x2048.Idx) (M : EReal)
    (hM : max (rowMax x (ValueIdx.ix2 (j 0) 0) : EReal) (rowMax y (ValueIdx.ix2 (j 0) 0)) = M) :
    cands x y c d j = IntOp.minsi (if (x j : EReal) = M then c j else 2147483647#32)
      (if (y j : EReal) = M then d j else 2147483647#32) := by
  have e : broadcastTo S128x2048 (maximumf (rowMax x) (rowMax y)) broadcasts_S128x1_S128x2048 j = (M : EReal) :=
    (broadcastTo_apply _ _ j (ValueIdx.ix2 (j 0) 0) (by intro k; fin_cases k <;> rfl)).trans hM
  rw [← select_eq (x j) M, ← select_eq (y j) M, ← e]
  rfl

/-- What every row of the result is. -/
def Emitted (c : Dev nD) (o : IVec S128x1 32) : Prop :=
  ∀ r : Fin 128, ∃ A, IsFirst (scoreAt (logits m c) r) A ∧ o (ValueIdx.ix2 r 0) = BitVec.ofNat 32 A

/-- The last point emits the first column of greatest score. -/
theorem emitted (c : Dev nD) (S : Sc Ideal) (h : Inv m c 13 S) : Emitted m c (emit S) := by
  have g := h.resolve_left (by omega)
  clear h
  intro r
  obtain ⟨A, hA⟩ := exists_first (scoreAt (logits m c) r)
  refine ⟨A, hA, ?_⟩
  generalize logits m c = a at g hA
  have one : ∀ j : S128x2048.Idx, j 0 = r → ∃ q, q < 100000 ∧ S.c1 j = BitVec.ofNat 32 q
      ∧ (rescore1 S.c1 S.l1 j : EReal) = scoreAt a r q := by
    rintro j rfl
    obtain ⟨⟨i, -, hr, e1, e2, -, -⟩, -⟩ := g j
    exact ⟨_, hr, e1, again_one a hr e1 e2⟩
  have two : ∀ j : S128x2048.Idx, j 0 = r → (S.c2 j = 2147483647#32 ∧ (again2 S j : EReal) = ⊥)
      ∨ ∃ q, q < 100000 ∧ S.c2 j = BitVec.ofNat 32 q ∧ (again2 S j : EReal) = scoreAt a r q := by
    rintro j rfl
    obtain ⟨-, e | ⟨q, hq, e1, e2⟩⟩ := g j
    · exact Or.inl ⟨e, again_none e⟩
    · exact Or.inr ⟨q, hq, e1, again_two a hq e1 e2⟩
  have best : ∃ j : S128x2048.Idx, j 0 = r ∧ S.c1 j = BitVec.ofNat 32 A ∧ (rescore1 S.c1 S.l1 j : EReal) = scoreAt a r A := by
    obtain ⟨⟨i, hi, hr, e1, e2, e3, hmax⟩, -⟩ := g (ValueIdx.ix2 r ⟨A % 2048, Nat.mod_lt _ (by omega)⟩)
    have el : ((ValueIdx.ix2 r ⟨A % 2048, Nat.mod_lt _ (by omega)⟩ : S128x2048.Idx) 1).val = A % 2048 := rfl
    have er : (ValueIdx.ix2 r ⟨A % 2048, Nat.mod_lt _ (by omega)⟩ : S128x2048.Idx) 0 = r := rfl
    rw [el] at hr e1 e2 e3 hmax
    rw [er] at e2 e3 hmax
    have hd : 2048 * (A / 2048) + A % 2048 = A := Nat.div_add_mod A 2048
    have hAr := hA.1
    have k := hmax (A / 2048) (by omega) (by omega)
    rw [hd, e3] at k
    have q := hA.2 _ hr
    have hi' : 2048 * i + A % 2048 = A := by
      rcases lt_trichotomy (2048 * i + A % 2048) A with h | h | h
      · exact absurd (q.2 h) (not_lt.mpr k.1)
      · exact h
      · exact absurd (k.2 (by omega)) (not_lt.mpr q.1)
    rw [hi'] at e1 e2
    exact ⟨_, er, e1, again_one a hAr e1 e2⟩
  have le1 : ∀ j ∈ row r, (rescore1 S.c1 S.l1 j : EReal) ≤ scoreAt a r A := fun j hj => by
    obtain ⟨q, hq, -, e⟩ := one j ((mem_row r j).mp hj)
    exact e.trans_le (hA.2 q hq).1
  have le2 : ∀ j ∈ row r, (again2 S j : EReal) ≤ scoreAt a r A := fun j hj => by
    rcases two j ((mem_row r j).mp hj) with ⟨-, e⟩ | ⟨q, hq, -, e⟩
    · exact e.trans_le bot_le
    · exact e.trans_le (hA.2 q hq).1
  have hM : max (rowMax (rescore1 S.c1 S.l1) (ValueIdx.ix2 r 0) : EReal) (rowMax (again2 S) (ValueIdx.ix2 r 0)) = scoreAt a r A := by
    rw [rowMax_apply, rowMax_apply]
    obtain ⟨j, hj, -, e⟩ := best
    rw [foldl_max _ (scoreAt a r A) _ _ bot_le le1 (Or.inr ⟨j, (mem_row r j).mpr hj, e⟩)]
    exact max_eq_left (foldl_max_le _ _ _ _ bot_le le2)
  have cand : ∀ j : S128x2048.Idx, j 0 = r → cands (rescore1 S.c1 S.l1) (again2 S) S.c1 S.c2 j
      = IntOp.minsi (if (rescore1 S.c1 S.l1 j : EReal) = scoreAt a r A then S.c1 j else 2147483647#32)
        (if (again2 S j : EReal) = scoreAt a r A then S.c2 j else 2147483647#32) := by
    rintro j rfl
    exact cands_apply _ _ _ _ j _ hM
  have hcol : ∀ q, q < 100000 → scoreAt a r q = scoreAt a r A → A ≤ q := fun q hq e => by
    by_contra hlt
    exact absurd e (ne_of_lt ((hA.2 q hq).2 (by omega)))
  have val : ∀ q, q < 100000 → (BitVec.ofNat 32 q).toNat = q := fun q hq => by
    rw [BitVec.toNat_ofNat]; omega
  have hAr := hA.1
  have big : A ≤ (2147483647#32 : BitVec 32).toNat ∧ (2147483647#32 : BitVec 32).toNat < 2 ^ 31 := by
    have : (2147483647#32 : BitVec 32).toNat = 2147483647 := rfl
    omega
  have w1 : ∀ j : S128x2048.Idx, j 0 = r →
      A ≤ (if (rescore1 S.c1 S.l1 j : EReal) = scoreAt a r A then S.c1 j else 2147483647#32).toNat
      ∧ (if (rescore1 S.c1 S.l1 j : EReal) = scoreAt a r A then S.c1 j else 2147483647#32).toNat < 2 ^ 31 := by
    intro j hj
    split_ifs with h
    · obtain ⟨q, hq, e, e'⟩ := one j hj
      rw [e, val q hq]
      exact ⟨hcol q hq (e'.symm.trans h), by omega⟩
    · exact big
  have w2 : ∀ j : S128x2048.Idx, j 0 = r →
      A ≤ (if (again2 S j : EReal) = scoreAt a r A then S.c2 j else 2147483647#32).toNat
      ∧ (if (again2 S j : EReal) = scoreAt a r A then S.c2 j else 2147483647#32).toNat < 2 ^ 31 := by
    intro j hj
    split_ifs with h
    · rcases two j hj with ⟨e, -⟩ | ⟨q, hq, e, e'⟩
      · rw [e]; exact big
      · rw [e, val q hq]
        exact ⟨hcol q hq (e'.symm.trans h), by omega⟩
    · exact big
  have lo : ∀ j : S128x2048.Idx, j 0 = r → (cands (rescore1 S.c1 S.l1) (again2 S) S.c1 S.c2 j).toNat
      = min (if (rescore1 S.c1 S.l1 j : EReal) = scoreAt a r A then S.c1 j else 2147483647#32).toNat
        (if (again2 S j : EReal) = scoreAt a r A then S.c2 j else 2147483647#32).toNat := fun j hj => by
    rw [cand j hj]
    exact WordArith.toNat_minsi_of_lt _ _ (w1 j hj).2 (w2 j hj).2
  have key : ((row r).foldl (fun b j => IntOp.minsi b (cands (rescore1 S.c1 S.l1) (again2 S) S.c1 S.c2 j)) 2147483647#32).toNat = A := by
    refine foldl_min _ A _ _ big.1 big.2 (fun j hj => ?_) (Or.inr ?_)
    · have hj' := (mem_row r j).mp hj
      rw [lo j hj']
      exact ⟨le_min (w1 j hj').1 (w2 j hj').1, lt_of_le_of_lt (min_le_left _ _) (w1 j hj').2⟩
    · obtain ⟨j, hj, e, e'⟩ := best
      refine ⟨j, (mem_row r j).mpr hj, ?_⟩
      rw [lo j hj, if_pos e', e, val A hA.1]
      exact min_eq_left (w2 j hj).1
  rw [emit_eq, column]
  refine BitVec.eq_of_toNat_eq ?_
  rw [val A hA.1, ← key]
  exact congrArg BitVec.toNat (reduceFold_eq_foldl _ _ _ _ _)

end Cert.KernelIdeal.Gen
-- ==== Proof.Ref.Value.lean ====
module

public import proofs.«01_k».proof.Proof.Ref.Run
public import proofs.«01_k».proof.Proof.Ideal.Hash
public import proofs.«01_k».proof.Proof.FirstMax
public import Idealize.ShloMosaic.PureOps.Ideal.Laws
public import Idealize.ShloMosaic.Lib.IdealHost
public import Idealize.ShloMosaic.Lib.ValueIdxCore

/-! What the reference's line leaves: of every row the first of the columns of greatest score. -/

@[expose] public section

set_option maxRecDepth 16384

noncomputable section

namespace Cert.ReferenceIdeal.Line

open Idealize.ShloMosaic Idealize.ShloMosaic.StableHlo Idealize.SL.Sem
open Idealize.ShloMosaic.TcCoe
open Cert.ReferenceIdeal Cert.ReferenceIdeal.Facts₀ Cert.Words Cert.FirstMax

section
variable {F : FTy → Type} [FloatOps F]

/-- The logarithm of the argument, before the cipher. -/
theorem pre_log (V : Valuation τ sig (Elt F)) : after pre V (Proc.devRef .tc main_v0) = (Host.log (V (Proc.devRef .tc main_arg0) : AF.Contents (Elt F)) : AF.Contents (Elt F)) := by
  unfold pre
  after_results_simp

/-- The counter's high word is zero. -/
theorem pre_high (V : Valuation τ sig (Elt F)) (j : S128x100000.Idx) : rd (.of main_v8 : TRef sig A32) (after pre V) j = 0 := by
  have e : after pre V (Proc.devRef .tc main_v8) = (addi (broadcastInDim S128x100000 ![] bcast_S_S128x100000 (constantI S_ 32 0#32))
      (broadcastInDim S128x100000 ![] bcast_S_S128x100000 (constantI S_ 32 0#32)) : A32.Contents (Elt F)) := by
    unfold pre
    after_results_simp
  exact (congrFun e j).trans rfl

/-- The counter's low word is the element's number, and the key's first word on top. -/
theorem pre_low (V : Valuation τ sig (Elt F)) (j : S128x100000.Idx) : rd (.of main_v10 : TRef sig A32) (after pre V) j
    = BitVec.ofNat 32 (j 0).val * 100000#32 + BitVec.ofNat 32 (j 1).val + 42 := by
  have e : after pre V (Proc.devRef .tc main_v10) = (addi (addi (muli (iotaInDim S128x100000 32 0)
      (broadcastInDim S128x100000 ![] bcast_S_S128x100000 (constantI S_ 32 100000#32))) (iotaInDim S128x100000 32 1))
      (broadcastInDim S128x100000 ![] bcast_S_S128x100000 (constantI S_ 32 42#32)) : A32.Contents (Elt F)) := by
    unfold pre
    after_results_simp
  exact (congrFun e j).trans rfl

/-- One element's score, from its word and its logarithm. -/
def word_score (w : BitVec 32) (l : F .f32) : F .f32 :=
  FloatOps.addf (FloatOps.hostNegf (FloatOps.hostUnary .log (FloatOps.hostNegf (FloatOps.hostUnary .log
    (FloatOps.maximumf (FloatOps.ofBits .f32 0x00800000#32) (FloatOps.addf (FloatOps.mulf (FloatOps.subf
      (FloatOps.ofBits .f32 (IntOp.ori (IntOp.shrui .host w 9#32) 1065353216#32)) (FloatOps.ofBits .f32 0x3F800000#32))
      (FloatOps.ofBits .f32 0x3F800000#32)) (FloatOps.ofBits .f32 0x00800000#32))))))) l

/-- The scores, after the cipher. -/
theorem post_score (V : Valuation τ sig (Elt F)) (j : S128x100000.Idx) :
    rd (.of main_v189 : TRef sig AF) (after post V) j
      = word_score (rd (.of main_v168 : TRef sig A32) V j ^^^ rd (.of main_v170 : TRef sig A32) V j) (rd (.of main_v0 : TRef sig AF) V j) := by
  have e : after post V (Proc.devRef .tc main_v189) = (addf (Host.negf (Host.log (Host.negf (Host.log
      (maximumf (broadcastInDim S128x100000 ![] bcast_S_S128x100000 (constant S_ .f32 0x00800000#32))
        (addf (mulf (subf (bitcastToFloat .f32 (ori (Host.shrui
          (xori (V (Proc.devRef .tc main_v168) : A32.Contents (Elt F)) (V (Proc.devRef .tc main_v170) : A32.Contents (Elt F)))
          (broadcastInDim S128x100000 ![] bcast_S_S128x100000 (constantI S_ 32 9#32)))
          (broadcastInDim S128x100000 ![] bcast_S_S128x100000 (constantI S_ 32 1065353216#32))))
          (broadcastInDim S128x100000 ![] bcast_S_S128x100000 (constant S_ .f32 0x3F800000#32)))
          (broadcastInDim S128x100000 ![] bcast_S_S128x100000 (constant S_ .f32 0x3F800000#32)))
          (broadcastInDim S128x100000 ![] bcast_S_S128x100000 (constant S_ .f32 0x00800000#32))))))))
      (V (Proc.devRef .tc main_v0) : AF.Contents (Elt F)) : AF.Contents (Elt F)) := by
    unfold post
    after_results_simp
  exact (congrFun e j).trans rfl

/-- The arg-max of the scores. -/
theorem argmax_value (V : Valuation τ sig (Elt F)) : after argmax V (Proc.devRef .tc main_v190)
    = (fun j => (Host.argReduce reducer_argmax_f32_i32 (V (Proc.devRef .tc main_v189) : AF.Contents (Elt F)) (iotaInDim S128x100000 32 1)
        (constant S_ .f32 0xFF800000#32) (constantI S_ 32 0#32) reducesTo_S128x100000_S128_d1 h_S_ j).2) := by
  unfold argmax
  after_results_simp
  rfl

/-- The logarithm of the argument is left alone by the cipher. -/
theorem rounds_keep (V : Valuation τ sig (Elt F)) :
    after ((rounds (F := F)).flatMap Step.ops) V (Proc.devRef .tc main_v0) = V (Proc.devRef .tc main_v0) :=
  after_keep _ ((written.drop 15).take 210) rfl main_v0 (by decide) V

/-- The score that the line leaves at an element. -/
theorem score_at (V : Valuation τ sig (Elt F)) (j : S128x100000.Idx) :
    (after post (after (rounds.flatMap Step.ops) (after pre V)) (Proc.devRef .tc main_v189) : AF.Contents (Elt F)) j
      = word_score (bits (BitVec.ofNat 32 (j 0).val * 100000#32 + BitVec.ofNat 32 (j 1).val))
        (FloatOps.hostUnary .log ((V (Proc.devRef .tc main_arg0) : AF.Contents (Elt F)) j)) := by
  have p := rounds_pair (after pre V) j _ (pre_high V j) (pre_low V j)
  refine (post_score (after ((rounds (F := F)).flatMap Step.ops) (after pre V)) j).trans ?_
  have e1 := congrArg Prod.fst p
  have e2 := congrArg Prod.snd p
  have e3 : rd (.of main_v0 : TRef sig AF) (after (rounds.flatMap Step.ops) (after pre V)) j
      = FloatOps.hostUnary .log ((V (Proc.devRef .tc main_arg0) : AF.Contents (Elt F)) j) :=
    congrFun ((rounds_keep (after pre V)).trans (pre_log V)) j
  dsimp only [pair] at e1 e2
  rw [e1, e2, e3]
  rfl

end

/-- A word shifted right by nine places. -/
theorem shift_nine (w : BitVec 32) : IntOp.shrui .host w 9#32 = w >>> 9 := by
  simp [IntOp.shrui]

/-- One element's score on the extended reals: the logarithm and the noise of the word. -/
theorem word_score_ideal (w : BitVec 32) (l : Ideal .f32) :
    (word_score (F := Ideal) w l : EReal) = (l : EReal) + (Cert.KernelIdeal.Gen.gum (F := Ideal) w : EReal) := by
  have one : ∀ x : Ideal .f32, (FloatOps.mulf x (FloatOps.ofBits .f32 0x3F800000#32) : Ideal .f32) = x := fun x =>
    (congrArg (fun y : EReal => (x : EReal) * y) Ideal.ofBits_one_f32).trans (mul_one (x : EReal))
  have neg : ∀ x : Ideal .f32, (FloatOps.hostNegf x : Ideal .f32) = FloatOps.subf (FloatOps.ofBits .f32 0x00000000#32) x := fun x =>
    ((congrArg (fun y : EReal => y - (x : EReal)) Ideal.ofBits_zero_f32).trans (zero_sub (x : EReal))).symm
  have lg : ∀ x : Ideal .f32, (FloatOps.hostUnary .log x : Ideal .f32) = FloatOps.log x := fun x => rfl
  have ad : ∀ x y : Ideal .f32, (FloatOps.addf x y : Ideal .f32) = ((y : EReal) + (x : EReal) : EReal) := fun x y => add_comm (x : EReal) (y : EReal)
  unfold word_score Cert.KernelIdeal.Gen.gum Cert.KernelIdeal.Gen.unif
  rw [one, neg, neg, lg, lg, shift_nine]
  exact ad _ _

/-- The reducer of the arg-max takes the better of two scored columns. -/
theorem reducer_eq (a b : EReal × BitVec 32) (ha : a.2.toNat < 2 ^ 31) (hb : b.2.toNat < 2 ^ 31) :
    reducer_argmax_f32_i32 (F := Ideal) a b = pick a b := by
  have ia := BitVec.toInt_eq_toNat_of_lt (x := a.2) (by omega)
  have ib := BitVec.toInt_eq_toNat_of_lt (x := b.2) (by omega)
  obtain ⟨x, p⟩ := a
  obtain ⟨y, q⟩ := b
  unfold reducer_argmax_f32_i32 pick
  have c1 : ∀ u v : EReal, FloatOps.cmpf (F := Ideal) (φ := .f32) .ogt u v = if v < u then 1 else 0 := fun u v => by
    rw [Ideal.cmpf_def]; unfold Ideal.cmp; by_cases h : v < u <;> simp [h]
  have c2 : ∀ u : EReal, FloatOps.cmpf (F := Ideal) (φ := .f32) .une u u = 0 := fun u => by
    rw [Ideal.cmpf_def]; simp [Ideal.cmp]
  have c3 : ∀ u v : EReal, FloatOps.cmpf (F := Ideal) (φ := .f32) .oeq u v = if u = v then 1 else 0 := fun u v => by
    rw [Ideal.cmpf_def]; unfold Ideal.cmp; by_cases h : u = v <;> simp [h]
  have c4 : IntOp.cmpi .slt p q = if p.toNat < q.toNat then 1 else 0 := by
    dsimp only at ia ib
    unfold IntOp.cmpi BitVec.slt
    by_cases h : p.toNat < q.toNat <;> simp [ia, ib, h]
  dsimp only
  rw [c1, c2, c3, c4]
  by_cases h : y < x <;> by_cases h' : x = y <;> by_cases h'' : p.toNat < q.toNat <;>
    simp [h, h', h'', IntOp.ori, IntOp.andi, Scalar.select]

/-- The row that an element of the scores reduces into. -/
theorem drop_val (i : S128x100000.Idx) (b : Fin 1) : (reducesTo_S128x100000_S128_d1.drop i b).val = (i 0).val := by
  obtain rfl : b = 0 := Subsingleton.elim _ _
  rfl

/-- The arg-max of a row is the first column of greatest score. -/
theorem argmax_first (x : S128x100000.Idx → EReal) (r : Fin 128) (A : ℕ) (sc : ℕ → EReal)
    (hx : ∀ q : Fin 100000, x (ValueIdx.ix2 r q) = sc q.val) (hA : IsFirst sc A) :
    (Host.argReduce (F := Ideal) (φ := .f32) reducer_argmax_f32_i32 x (iotaInDim S128x100000 32 1)
      (constant S_ .f32 0xFF800000#32) (constantI S_ 32 0#32) reducesTo_S128x100000_S128_d1 h_S_ (ValueIdx.ix1 r : S128.Idx)).2
      = BitVec.ofNat 32 A := by
  rw [Ideal.argReduce_eq_reduce2, Host.reduce2_eq_foldl_fiber, Host.argReduceFiber, List.foldl_map]
  have hAr := hA.1
  have val : ∀ q, q < 100000 → (BitVec.ofNat 32 q).toNat = q := fun q hq => by
    rw [BitVec.toNat_ofNat]; omega
  have bot : (Ideal.ofBits .f32 0xFF800000#32 : EReal) = ⊥ := by simp [Ideal.ofBits, Ideal.ieee]
  have item : ∀ i : S128x100000.Idx, i 0 = r → x i = sc (i 1).val := by
    rintro i rfl
    refine Eq.trans (congrArg x (funext fun a => ?_)) (hx (i 1))
    fin_cases a <;> rfl
  refine congrArg Prod.snd (foldl_pick (reducer_argmax_f32_i32 (F := Ideal)) reducer_eq (sc A, BitVec.ofNat 32 A)
    (fun n => (x (S128x100000.rowMajor.symm n), iotaInDim S128x100000 32 1 (S128x100000.rowMajor.symm n))) _ _ ?_ ?_ ?_)
  · refine ⟨by show (0#32 : BitVec 32).toNat < _; decide, ?_⟩
    show Ideal.ofBits .f32 0xFF800000#32 < sc A ∨ (Ideal.ofBits .f32 0xFF800000#32 = sc A ∧ _)
    rw [bot]
    rcases eq_or_lt_of_le (bot_le (a := sc A)) with h | h
    · refine Or.inr ⟨h, ?_⟩
      have : ¬ 0 < A := fun h0 => not_lt_bot (h ▸ (hA.2 0 (by omega)).2 h0)
      show (BitVec.ofNat 32 A).toNat ≤ _
      rw [val A hAr]; omega
    · exact Or.inl h
  · intro n hn
    have hn' : reducesTo_S128x100000_S128_d1.drop (S128x100000.rowMajor.symm n) = (ValueIdx.ix1 r : S128.Idx) := by
      simpa using (List.mem_filter.mp hn).2
    clear hn
    generalize S128x100000.rowMajor.symm n = i at hn' ⊢
    have h0 : i 0 = r := Fin.ext ((drop_val i 0).symm.trans (congrArg Fin.val (congrFun hn' (0 : Fin 1))))
    have h1 : (i 1).val < 100000 := (i 1).isLt
    have e : (iotaInDim S128x100000 32 1 i).toNat = (i 1).val := val _ h1
    unfold Under
    dsimp only
    rw [e, item i h0, val A hAr]
    refine ⟨by omega, ?_⟩
    rcases eq_or_lt_of_le (hA.2 _ h1).1 with h | h
    · refine Or.inr ⟨h, ?_⟩
      by_contra hlt
      exact absurd h (ne_of_lt ((hA.2 _ h1).2 (by omega)))
    · exact Or.inl h
  · refine Or.inr ⟨S128x100000.rowMajor (ValueIdx.ix2 r ⟨A, hAr⟩), ?_, ?_⟩
    · refine List.mem_filter.mpr ⟨List.mem_finRange _, decide_eq_true ?_⟩
      rw [Equiv.symm_apply_apply]
      refine funext fun b => Fin.ext ?_
      rw [drop_val]
      obtain rfl : b = 0 := Subsingleton.elim _ _
      rfl
    · rw [Equiv.symm_apply_apply, hx]
      rfl

/-- The score in row `r` and column `q` (beyond the row, anything). -/
def refScore (a : S128x100000.Idx → EReal) (r : Fin 128) (q : ℕ) : EReal :=
  (if h : q < 100000 then (FloatOps.log (F := Ideal) (φ := .f32) (a (ValueIdx.ix2 r ⟨q, h⟩)) : EReal) else 0)
    + (Cert.KernelIdeal.Gen.noise (F := Ideal) (BitVec.ofNat 32 r.val * 100000#32 + BitVec.ofNat 32 q) : EReal)

/-- The result is of every row the first column of greatest score. -/
theorem result_first (V : Valuation τ sig (Elt Ideal)) (r : Fin 128) (A : ℕ)
    (hA : IsFirst (refScore (V (Proc.devRef .tc main_arg0) : S128x100000.Idx → EReal) r) A) :
    (after ops V (Proc.devRef .tc main_v190) : IVec S128 32) (ValueIdx.ix1 r) = BitVec.ofNat 32 A := by
  unfold ops
  rw [after_two, after_two, after_two, argmax_value]
  refine argmax_first _ r A _ (fun q => ?_) hA
  refine (score_at V (ValueIdx.ix2 r q)).trans ?_
  rw [word_score_ideal]
  unfold refScore Cert.KernelIdeal.Gen.noise
  rw [dif_pos q.isLt]
  rfl

end Cert.ReferenceIdeal.Line
-- ==== Proof.Equal.lean ====
module

public import proofs.«01_k».proof.Defs
public import proofs.«01_k».proof.Proof.Ideal.Emit
public import proofs.«01_k».proof.Proof.Ref.Value

/-! The kernel and the reference end with the same result: of every row the first of the columns of greatest score. -/

@[expose] public section

set_option maxRecDepth 16384

noncomputable section

namespace Cert.Equal

open Idealize.ShloMosaic Idealize.ShloMosaic.TcCoe Idealize.SL.Sem Cert.FirstMax
open Cert.KernelIdeal.Gen (scoreAt logits Emitted)
open Cert.ReferenceIdeal.Line (refScore)

/-- The two programs score alike. -/
theorem score_eq (a : Cert.KernelIdeal.S128x100000.Idx → EReal) (r : Fin 128) : refScore a r = scoreAt a r := by
  funext q
  unfold refScore Cert.KernelIdeal.Gen.scoreAt Cert.KernelIdeal.Gen.logAt Cert.KernelIdeal.Gen.gumAt
  rfl

/-- The first column of greatest score of every row. -/
def sample (a : Cert.KernelIdeal.S128x100000.Idx → EReal) : IVec Cert.KernelIdeal.S128 32 :=
  fun i => BitVec.ofNat 32 (exists_first (scoreAt a (i 0))).choose

/-- A result that is a first column of greatest score in every row is the sample. -/
theorem eq_sample (a : Cert.KernelIdeal.S128x100000.Idx → EReal) (x : IVec Cert.KernelIdeal.S128 32)
    (h : ∀ r : Fin 128, ∃ A, IsFirst (scoreAt a r) A ∧ x (ValueIdx.ix1 r) = BitVec.ofNat 32 A) : x = sample a := by
  funext i
  obtain ⟨A, hA, e⟩ := h (i 0)
  have ei : i = ValueIdx.ix1 (i 0) := by
    funext b
    fin_cases b
    rfl
  have ex : x i = x (ValueIdx.ix1 (i 0)) := congrArg x ei
  rw [ex, e, first_unique hA (exists_first (scoreAt a (i 0))).choose_spec]
  rfl

/-- A column laid out as a row, read at a place. -/
theorem row_of (x : IVec Cert.KernelIdeal.S128x1 32) (h : Cert.KernelIdeal.S128x1.ShapeCasts Cert.KernelIdeal.S128) (r : Fin 128) :
    shapeCast Cert.KernelIdeal.S128 x h (ValueIdx.ix1 r) = x (ValueIdx.ix2 r 0) := by
  refine shapeCast_apply x _ _ _ ?_
  simp [Shape.rowMajor_val_one, Shape.rowMajor_val_two]

/-- The reshape reads the emitted column row by row. -/
theorem reshape_at (W : Valuation Cert.KernelIdeal.τ Cert.KernelIdeal.sig (Elt Ideal)) (r : Fin 128) :
    (StableHlo.after Cert.KernelIdeal.Gen.hostOps2 W (Proc.devRef .tc Cert.KernelIdeal.main_v0) : IVec Cert.KernelIdeal.S128 32) (ValueIdx.ix1 r)
      = (W (Proc.devRef .tc Cert.KernelIdeal.main_call0_v1) : IVec Cert.KernelIdeal.S128x1 32) (ValueIdx.ix2 r 0) := by
  have e : StableHlo.after Cert.KernelIdeal.Gen.hostOps2 W (Proc.devRef .tc Cert.KernelIdeal.main_v0)
      = (shapeCast Cert.KernelIdeal.S128 (W (Proc.devRef .tc Cert.KernelIdeal.main_call0_v1) : IVec Cert.KernelIdeal.S128x1 32)
        Cert.KernelIdeal.Gen.facts.shapeCasts_S128x1_S128 : IVec Cert.KernelIdeal.S128 32) := by
    unfold Cert.KernelIdeal.Gen.hostOps2
    after_results_simp
    rfl
  exact (congrFun e _).trans (row_of _ _ r)

/-- Every execution of the kernel ends with the sample. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      (fun r => ∀ c : Dev Cert.KernelIdeal.nD,
        r.2.mem ((c.tc : Thread Cert.KernelIdeal.nD Cert.KernelIdeal.τ).loc Cert.KernelIdeal.main_v0) = sample (logits m c)
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0)) :=
  (θ_run _ _ _).mono (fun r h c => by
    obtain ⟨o, ho⟩ := h.1 c
    refine ⟨(ho _ (Cert.KernelIdeal.Gen.mem_uc Cert.KernelIdeal.main_v0 (by decide))).trans ?_,
      (ho _ (Cert.KernelIdeal.Gen.mem_uc Cert.KernelIdeal.main_arg0 (by decide))).trans (Cert.KernelIdeal.Gen.W3_arg m c o.1)⟩
    refine eq_sample (logits m c) _ fun r => ?_
    obtain ⟨A, hA, e⟩ := o.2 r
    refine ⟨A, hA, (reshape_at _ r).trans ?_⟩
    exact (congrFun (Cert.KernelIdeal.Gen.W2_out m c o.1) _).trans e)
  (Cert.KernelIdeal.Gen.run m (Cert.KernelIdeal.Gen.Inv m) (Emitted m) g (fun _ _ => Or.inl rfl) (Cert.KernelIdeal.Gen.steps m)
    (Cert.KernelIdeal.Gen.emitted m))

/-- Every execution of the reference ends with the sample. -/
theorem reference_run (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v190)
          = sample (m ((c.tc : Thread Cert.ReferenceIdeal.nD Cert.ReferenceIdeal.τ).loc Cert.ReferenceIdeal.main_arg0))
        ∧ r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)) :=
  (θ_run _ _ _).mono (fun r h c => by
    refine ⟨(h c Cert.ReferenceIdeal.main_v190).trans ?_, (h c Cert.ReferenceIdeal.main_arg0).trans (Cert.ReferenceIdeal.Line.arg_keep _)⟩
    refine eq_sample _ _ fun r => ?_
    obtain ⟨A, hA⟩ := exists_first (scoreAt (m ((c.tc : Thread Cert.ReferenceIdeal.nD Cert.ReferenceIdeal.τ).loc Cert.ReferenceIdeal.main_arg0)) r)
    refine ⟨A, hA, Cert.ReferenceIdeal.Line.result_first _ r A ?_⟩
    rw [← score_eq] at hA
    exact hA)
  (Cert.ReferenceIdeal.Line.run m g)

/-- The results are equal. -/
theorem algebraic (m : (ℓ : Loc Cert.KernelIdeal.nD Cert.KernelIdeal.τ Cert.KernelIdeal.sig) → Buf (Elt Ideal) ℓ)
    (g : Dev Cert.KernelIdeal.nD → PrngReg)
    (m' : (ℓ : Loc Cert.ReferenceIdeal.nD Cert.ReferenceIdeal.τ Cert.ReferenceIdeal.sig) → Buf (Elt Ideal) ℓ)
    (g' : Dev Cert.ReferenceIdeal.nD → PrngReg)
    (h : ∀ c : Dev Cert.KernelIdeal.nD,
      m' ((c.tc : Thread Cert.ReferenceIdeal.nD Cert.ReferenceIdeal.τ).loc Cert.ReferenceIdeal.main_arg0)
        = m ((c.tc : Thread Cert.KernelIdeal.nD Cert.KernelIdeal.τ).loc Cert.KernelIdeal.main_arg0)) :
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩
        (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal)))
          ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0)
            = m' ((c.tc : Thread Cert.ReferenceIdeal.nD Cert.ReferenceIdeal.τ).loc Cert.ReferenceIdeal.main_arg0)) :=
  ⟨fun c => sample (logits m c), kernel_run m g,
    (θ_run _ _ _).mono (fun r k c => ⟨(k c).1.trans (congrArg sample (h c)), (k c).2⟩) (reference_run m' g')⟩

end Cert.Equal
-- ==== Proof.lean ====
module

public import proofs.«01_k».proof.Defs
public import proofs.«01_k».proof.Proof.Bits.Run
public import proofs.«01_k».proof.Proof.Ideal.Run
public import proofs.«01_k».proof.Proof.Ref.Run
public import proofs.«01_k».proof.Proof.Equal

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Gen.frame m g, fun m g _ => Cert.KernelIdeal.Gen.frame m g,
  fun m g _ => Cert.ReferenceIdeal.Line.frame m g, trivial,
  fun m g m' g' _ h => Cert.Equal.algebraic m g m' g' h⟩

end Cert.Proof
